-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_rows [hPre_normal_rows : Cert.Pre_normal_rows.Facts] (m : (ℓ : Loc Cert.KernelIdeal.nD Cert.KernelIdeal.τ Cert.KernelIdeal.sig) → Buf (Elt Ideal) ℓ) : Prop :=
  ∀ c : Dev Cert.KernelIdeal.nD,
    (Cert.Pre_normal_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_rows [hPre_normal_rows : Cert.Pre_normal_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_rows [hKernelIdeal : Cert.KernelIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_rows [hReferenceIdeal : Cert.ReferenceIdeal.Facts] [hPre_normal_rows : Cert.Pre_normal_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_rows [hKernelIdeal : Cert.KernelIdeal.Facts] [hReferenceIdeal : Cert.ReferenceIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v0_0) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_rows : Cert.Pre_normal_rows.Facts),
    quiescent_Kernel (hKernel := hKernel)
    ∧ quiescent_KernelIdeal (hKernelIdeal := hKernelIdeal)
    ∧ quiescent_KernelIdeal_pre_normal_rows (hKernelIdeal := hKernelIdeal) (hPre_normal_rows := hPre_normal_rows)
    ∧ quiescent_ReferenceIdeal (hReferenceIdeal := hReferenceIdeal)
    ∧ quiescent_ReferenceIdeal_pre_normal_rows (hReferenceIdeal := hReferenceIdeal) (hPre_normal_rows := hPre_normal_rows)
    ∧ preserves_Kernel_KernelIdeal
    ∧ algebraic_KernelIdeal_ReferenceIdeal_pre_normal_rows (hKernelIdeal := hKernelIdeal) (hReferenceIdeal := hReferenceIdeal) (hPre_normal_rows := hPre_normal_rows)
-- ==== Pre_normal_rows.lean ====
abbrev S3x4096x2048 : Shape := ⟨3, ![3, 4096, 2048]⟩
abbrev S4096x2048 : Shape := ⟨2, ![4096, 2048]⟩
abbrev S3x4096x4096 : Shape := ⟨3, ![3, 4096, 4096]⟩
abbrev S_ : Shape := ⟨0, ![]⟩
abbrev S4096 : Shape := ⟨1, ![4096]⟩

class Facts : Prop where
  reducesTo_S4096x2048_S4096_d1 : S4096x2048.ReducesTo [1] S4096
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S3x4096x2048 .bf16) (main_arg1 : FVec F S4096x2048 .f32) (main_arg2 : FVec F S3x4096x4096 .bf16) : IVec S_ 1 :=
  let main_v0 : FVec F S4096x2048 .f32 := Host.absf main_arg1
  let main_cst : FVec F S_ .f32 := constant S_ .f32 0xFF800000#32
  let main_v1 : FVec F S4096 .f32 := (fun x v => Host.reduce FloatOps.maximumf x v reducesTo_S4096x2048_S4096_d1 h_S_) main_v0 main_cst
  let main_cst_0 : FVec F S_ .f32 := constant S_ .f32 0x3B124925#32
  let main_v2 : FVec F S4096 .f32 := broadcastInDim S4096 ![] bcast_S_S4096 main_cst_0
  let main_v3 : FVec F S4096 .f32 := mulf main_v1 main_v2
  let main_cst_1 : FVec F S_ .f32 := constant S_ .f32 0x00000000#32
  let main_v4 : FVec F S4096 .f32 := broadcastInDim S4096 ![] bcast_S_S4096 main_cst_1
  let main_v5 : IVec S4096 1 := cmpf .oeq main_v1 main_v4
  let main_cst_2 : FVec F S_ .f32 := constant S_ .f32 0x7F800000#32
  let main_v6 : FVec F S4096 .f32 := broadcastInDim S4096 ![] bcast_S_S4096 main_cst_2
  let main_v7 : IVec S4096 1 := cmpf .oeq main_v1 main_v6
  let main_v8 : IVec S4096 1 := ori main_v5 main_v7
  let main_cst_3 : FVec F S_ .f32 := constant S_ .f32 0x00800000#32
  let main_v9 : FVec F S4096 .f32 := broadcastInDim S4096 ![] bcast_S_S4096 main_cst_3
  let main_v10 : IVec S4096 1 := cmpf .oge main_v3 main_v9
  let main_cst_4 : FVec F S_ .f32 := constant S_ .f32 0x7E800000#32
  let main_v11 : FVec F S4096 .f32 := broadcastInDim S4096 ![] bcast_S_S4096 main_cst_4
  let main_v12 : IVec S4096 1 := cmpf .olt main_v3 main_v11
  let main_v13 : IVec S4096 1 := andi main_v10 main_v12
  let main_v14 : IVec S4096 1 := ori main_v8 main_v13
  let main_c : IVec S_ 1 := constantI S_ 1 1#1
  let main_v15 : IVec S_ 1 := (fun x v => Host.reduce IntOp.andi x v reducesTo_S4096_S_d0 h_S_) main_v14 main_c
  main_v15
-- ==== Kernel.lean ====
abbrev S3x4096x2048 : Shape := ⟨3, ![3, 4096, 2048]⟩
abbrev S4096x2048 : Shape := ⟨2, ![4096, 2048]⟩
abbrev S3x4096x4096 : Shape := ⟨3, ![3, 4096, 4096]⟩
abbrev S12288x2048 : Shape := ⟨2, ![12288, 2048]⟩
abbrev S12288x4096 : Shape := ⟨2, ![12288, 4096]⟩
abbrev S4096x1 : Shape := ⟨2, ![4096, 1]⟩
abbrev S768x1024 : Shape := ⟨2, ![768, 1024]⟩
abbrev S768x2048 : Shape := ⟨2, ![768, 2048]⟩
abbrev S64x2048 : Shape := ⟨2, ![64, 2048]⟩
abbrev S1024x2048 : Shape := ⟨2, ![1024, 2048]⟩
abbrev S64x1 : Shape := ⟨2, ![64, 1]⟩
abbrev S64 : Shape := ⟨1, ![64]⟩
abbrev S64x256 : Shape := ⟨2, ![64, 256]⟩
abbrev S512x2048 : Shape := ⟨2, ![512, 2048]⟩
abbrev S512x4096 : Shape := ⟨2, ![512, 4096]⟩
abbrev S4096 : Shape := ⟨1, ![4096]⟩

abbrev nBuf : Space → Nat
  | .hbm => 14
  | .vmem => 23
  | .smem => 0
  | _ => 0

abbrev bufTy : (tb : Table) → Fin (tcTables nBuf tb) → BufTy
  | .hbm, ⟨0, _⟩ => ⟨S3x4096x2048, .bf16⟩
  | .hbm, ⟨1, _⟩ => ⟨S4096x2048, .f32⟩
  | .hbm, ⟨2, _⟩ => ⟨S3x4096x4096, .bf16⟩
  | .hbm, ⟨3, _⟩ => ⟨S12288x2048, .bf16⟩
  | .hbm, ⟨4, _⟩ => ⟨S12288x4096, .bf16⟩
  | .hbm, ⟨5, _⟩ => ⟨S4096x2048, .f32⟩
  | .hbm, ⟨6, _⟩ => ⟨S4096x2048, .fp8e4m3⟩
  | .hbm, ⟨7, _⟩ => ⟨S4096x1, .f32⟩
  | .hbm, ⟨8, _⟩ => ⟨S4096x2048, .bf16⟩
  | .hbm, ⟨9, _⟩ => ⟨S12288x4096, .bf16⟩
  | .hbm, ⟨10, _⟩ => ⟨S12288x2048, .bf16⟩
  | .hbm, ⟨11, _⟩ => ⟨S3x4096x4096, .bf16⟩
  | .hbm, ⟨12, _⟩ => ⟨S3x4096x2048, .bf16⟩
  | .hbm, ⟨13, _⟩ => ⟨S4096, .f32⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S64x2048, .f32⟩
  | .local _ .vmem, ⟨5, _⟩ => ⟨S64x2048, .f32⟩
  | .local _ .vmem, ⟨6, _⟩ => ⟨S1024x2048, .f32⟩
  | .local _ .vmem, ⟨7, _⟩ => ⟨S1024x2048, .f32⟩
  | .local _ .vmem, ⟨8, _⟩ => ⟨S64x2048, .fp8e4m3⟩
  | .local _ .vmem, ⟨9, _⟩ => ⟨S64x2048, .fp8e4m3⟩
  | .local _ .vmem, ⟨10, _⟩ => ⟨S64x1, .f32⟩
  | .local _ .vmem, ⟨11, _⟩ => ⟨S64x1, .f32⟩
  | .local _ .vmem, ⟨12, _⟩ => ⟨S64x2048, .bf16⟩
  | .local _ .vmem, ⟨13, _⟩ => ⟨S64x2048, .bf16⟩
  | .local _ .vmem, ⟨14, _⟩ => ⟨S512x2048, .bf16⟩
  | .local _ .vmem, ⟨15, _⟩ => ⟨S512x2048, .bf16⟩
  | .local _ .vmem, ⟨16, _⟩ => ⟨S512x4096, .bf16⟩
  | .local _ .vmem, ⟨17, _⟩ => ⟨S512x4096, .bf16⟩
  | .local _ .vmem, ⟨18, _⟩ => ⟨S4096x2048, .bf16⟩
  | .local _ .vmem, ⟨19, _⟩ => ⟨S512x4096, .bf16⟩
  | .local _ .vmem, ⟨20, _⟩ => ⟨S512x4096, .bf16⟩
  | .local _ .vmem, ⟨21, _⟩ => ⟨S512x2048, .bf16⟩
  | .local _ .vmem, ⟨22, _⟩ => ⟨S512x2048, .bf16⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S3x4096x2048 : Shape := ⟨3, ![3, 4096, 2048]⟩
abbrev S4096x2048 : Shape := ⟨2, ![4096, 2048]⟩
abbrev S3x4096x4096 : Shape := ⟨3, ![3, 4096, 4096]⟩
abbrev S4096x1 : Shape := ⟨2, ![4096, 1]⟩
abbrev S4096 : Shape := ⟨1, ![4096]⟩
abbrev S4096x256 : Shape := ⟨2, ![4096, 256]⟩

abbrev nBuf : Space → Nat
  | .hbm => 12
  | .vmem => 4
  | .smem => 0
  | _ => 0

abbrev bufTy : (tb : Table) → Fin (tcTables nBuf tb) → BufTy
  | .hbm, ⟨0, _⟩ => ⟨S3x4096x2048, .bf16⟩
  | .hbm, ⟨1, _⟩ => ⟨S4096x2048, .f32⟩
  | .hbm, ⟨2, _⟩ => ⟨S3x4096x4096, .bf16⟩
  | .hbm, ⟨3, _⟩ => ⟨S4096x2048, .fp8e4m3⟩
  | .hbm, ⟨4, _⟩ => ⟨S4096x1, .f32⟩
  | .hbm, ⟨5, _⟩ => ⟨S4096x2048, .bf16⟩
  | .hbm, ⟨6, _⟩ => ⟨S3x4096x4096, .f32⟩
  | .hbm, ⟨7, _⟩ => ⟨S3x4096x4096, .bf16⟩
  | .hbm, ⟨8, _⟩ => ⟨S3x4096x2048, .f32⟩
  | .hbm, ⟨9, _⟩ => ⟨S3x4096x2048, .bf16⟩
  | .hbm, ⟨10, _⟩ => ⟨S4096x2048, .f32⟩
  | .hbm, ⟨11, _⟩ => ⟨S4096, .f32⟩
  | .local _ .vmem, ⟨0, _⟩ => ⟨S4096x2048, .f32⟩
  | .local _ .vmem, ⟨1, _⟩ => ⟨S4096x2048, .fp8e4m3⟩
  | .local _ .vmem, ⟨2, _⟩ => ⟨S4096x1, .f32⟩
  | .local _ .vmem, ⟨3, _⟩ => ⟨S4096x2048, .bf16⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/-
  Hand-written, untrusted. THE KERNEL'S RUN: every execution of the program ends, nothing faulting, each result array holding
  what the last segment boundary's contents (`Gen.W4`) say and the arguments unchanged.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unfolding plain definitions in a metavariable's type
set_option backward.isDefEq.respectTransparency.types false in
/-- The run with every unscoped array named: each result array ends at the last boundary's contents, each argument array as
    launched (the launch over the segments, as in the frame, its final read taken at the result arrays too). -/
theorem run_results : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v4 (by decide)),
       h c _ (mem_uc main_v5 (by decide)),
       h c _ (mem_uc main_v2_0 (by decide)),
       h c _ (mem_uc main_v2_1 (by decide)),
       h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Gen

end
-- ==== Proof.Scale.lean ====
/-
  Hand-written, untrusted. A ROW'S POWER-OF-TWO SCALE, as the two programs compute it from the row's largest magnitude, at
  the extended reals. One counts the exponent fields whose power of two does not exceed the scaled magnitude and builds
  2^e and 2^(-e) as words with that exponent field; the other takes the least power of two above the scaled magnitude and
  its reciprocal. Here: the two agree on every magnitude the precondition admits (`scale_eq`, `inv_eq`).
-/
module

public import Idealize.ShloMosaic.PureOps.Ideal.Laws
public import Idealize.ShloMosaic.Lib.IndicatorCount
public import Idealize.ShloMosaic.Lib.Pointwise

@[expose] public section

set_option maxRecDepth 16384

noncomputable section

namespace Cert.Proof.Scale

open Idealize.ShloMosaic

/-! ## The two computations -/

/-- The program's constant for 1/448 (f32 0x3B124925). -/
def recip448 : EReal := Ideal.ofBits .f32 0x3B124925#32

/-- The f32 word with exponent field `k`, sign and fraction zero, read as a value. -/
def fieldValue (k : Fin 256) : EReal := Ideal.ofBits .f32 (IntOp.shli .vector (BitVec.ofNat 32 k.val) 23#32)

/-- The exponent field of `v`: the number of fields whose value does not exceed `|v|`, less one. -/
def expField (v : EReal) : BitVec 32 :=
  IntOp.subi ((Finset.univ : Finset (Fin 256)).fold IntOp.addi 0#32 fun k => if max v (-v) < fieldValue k then 0#32 else 1#32) 1#32

/-- The row exponent `e`: the field less 126; zero for the fields 0 and 255. -/
def rowExp (v : EReal) : BitVec 32 :=
  Scalar.select (IntOp.ori (IntOp.cmpi .eq (expField v) 0#32) (IntOp.cmpi .eq (expField v) 255#32)) 0#32
    (IntOp.subi (expField v) 126#32)

/-- The power of two `2^e` as the word with exponent field `e + 127`. -/
def pow2 (e : BitVec 32) : EReal := Ideal.ofBits .f32 (IntOp.shli .vector (IntOp.addi e 127#32) 23#32)

/-- `2^(k - 128)`, from the place `k` of a row of 256 places. -/
def power (k : Fin 256) : EReal := FloatOps.exp2 (F := Ideal) (φ := .f32) (FloatOps.sitofp (F := Ideal) .f32 (IntOp.subi (BitVec.ofNat 32 k.val) 128#32))

/-- The scale of a row whose largest magnitude is `a`: one for a zero row or an infinite magnitude, else the least of the
    powers above `a/448`. -/
def scale (a : EReal) : EReal :=
  if a = 0 ∨ a = ⊤ then 1
  else (Finset.univ : Finset (Fin 256)).fold min (Ideal.ofBits .f32 0x7F800000#32) fun k =>
    if a * recip448 < power k then power k else Ideal.ofBits .f32 0x7F800000#32

/-- What the precondition says of a row's largest magnitude. -/
def Normal (a : EReal) : Prop :=
  (a = 0 ∨ a = ⊤) ∨ (Ideal.ofBits .f32 0x00800000#32 ≤ a * recip448 ∧ a * recip448 < Ideal.ofBits .f32 0x7E800000#32)

/-! ## Values of words -/

/-- A word's value from its three fields, the sign clear. -/
theorem ieee_of_fields {b : BitVec 32} {k f : ℕ} (hs : b.extractLsb' 31 1 = 0#1) (hk : (b.extractLsb' 23 8).toNat = k)
    (hf : (b.extractLsb' 0 23).toNat = f) (h0 : k ≠ 0) (h1 : k ≠ 255) :
    Ideal.ofBits .f32 b = (((2 ^ 23 + f : ℕ) * (2 : ℝ) ^ ((k : ℤ) - 127 - 23) : ℝ) : EReal) := by
  show Ideal.ieee 8 23 b = _
  unfold Ideal.ieee
  rw [show (8 + 23 : ℕ) = 31 from rfl, hs, hk, hf]
  rw [if_neg (by norm_num; exact h1), if_neg h0]
  norm_num

theorem fields (k : Fin 256) : (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 :=
  (by decide +kernel : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0) k

/-- The value of a field strictly between 0 and 255: its power of two. -/
theorem fieldValue_mid (k : Fin 256) (h0 : k.val ≠ 0) (h1 : k.val ≠ 255) :
    fieldValue k = (((2 : ℝ) ^ ((k.val : ℤ) - 127) : ℝ) : EReal) := by
  obtain ⟨hs, hk, hf⟩ := fields k
  unfold fieldValue
  rw [ieee_of_fields hs hk hf h0 h1]
  rw [EReal.coe_eq_coe_iff, zpow_sub₀ (by norm_num : (2 : ℝ) ≠ 0) _ (23 : ℤ)]
  norm_num
  field_simp

theorem fieldValue_zero (k : Fin 256) (h0 : k.val = 0) : fieldValue k = 0 := by
  obtain ⟨hs, hk, hf⟩ := fields k
  show Ideal.ieee 8 23 _ = _
  unfold Ideal.ieee
  rw [show (8 + 23 : ℕ) = 31 from rfl, hs, hk, hf, h0]
  norm_num

theorem fieldValue_top (k : Fin 256) (h1 : k.val = 255) : fieldValue k = ⊤ := by
  obtain ⟨hs, hk, hf⟩ := fields k
  show Ideal.ieee 8 23 _ = _
  unfold Ideal.ieee
  rw [show (8 + 23 : ℕ) = 31 from rfl, hs, hk, hf, h1]
  norm_num

theorem ofBits_inf : Ideal.ofBits .f32 0x7F800000#32 = ⊤ := by
  have h : (0x7F800000#32 : BitVec 32) = IntOp.shli .vector (BitVec.ofNat 32 255) 23#32 := by decide
  rw [h]
  exact fieldValue_top ⟨255, by norm_num⟩ rfl

theorem power_eq (k : Fin 256) : power k = (((2 : ℝ) ^ ((k.val : ℤ) - 128) : ℝ) : EReal) := by
  have hi : (IntOp.subi (BitVec.ofNat 32 k.val) 128#32).toInt = (k.val : ℤ) - 128 :=
    (by decide +kernel : ∀ k : Fin 256, (IntOp.subi (BitVec.ofNat 32 k.val) 128#32).toInt = (k.val : ℤ) - 128) k
  show Ideal.exp2 ((((IntOp.subi (BitVec.ofNat 32 k.val) 128#32).toInt : ℤ) : ℝ) : EReal) = _
  rw [hi]
  show ((Real.rpow 2 (((k.val : ℤ) - 128 : ℤ) : ℝ) : ℝ) : EReal) = _
  congr 1
  exact Real.rpow_intCast 2 _

theorem recip448_eq : recip448 = (((9586981 : ℝ) * (2 : ℝ) ^ (-32 : ℤ) : ℝ) : EReal) := by
  unfold recip448
  rw [ieee_of_fields (k := 118) (f := 1198373) (by decide) (by decide) (by decide) (by norm_num) (by norm_num)]
  norm_num

theorem least_normal : Ideal.ofBits .f32 0x00800000#32 = (((2 : ℝ) ^ (-126 : ℤ) : ℝ) : EReal) := by
  rw [ieee_of_fields (k := 1) (f := 0) (by decide) (by decide) (by decide) (by norm_num) (by norm_num)]
  norm_num

theorem bound_above : Ideal.ofBits .f32 0x7E800000#32 = (((2 : ℝ) ^ (126 : ℤ) : ℝ) : EReal) := by
  rw [ieee_of_fields (k := 253) (f := 0) (by decide) (by decide) (by decide) (by norm_num) (by norm_num)]
  norm_num

/-! ## The exponent -/

/-- The field of a value between `2^n` and `2^(n+1)`, `-126 ≤ n ≤ 125`, is `n + 127`. -/
theorem expField_eq (x : ℝ) (N : ℕ) (hN : 1 ≤ N ∧ N ≤ 252) (hlo : (2 : ℝ) ^ ((N : ℤ) - 127) ≤ x)
    (hhi : x < (2 : ℝ) ^ ((N : ℤ) - 126)) : expField (x : EReal) = BitVec.ofNat 32 N := by
  have hx : 0 < x := lt_of_lt_of_le (by positivity) hlo
  have hmax : max (x : EReal) (-(x : EReal)) = (x : EReal) := by
    rw [← EReal.coe_neg]
    exact max_eq_left (EReal.coe_le_coe_iff.2 (by linarith))
  have hlt : ∀ k : Fin 256, ((x : EReal) < fieldValue k ↔ N < k.val) := by
    intro k
    by_cases h0 : k.val = 0
    · rw [fieldValue_zero k h0, h0]
      constructor
      · intro h
        have : x < 0 := by exact_mod_cast h
        linarith
      · omega
    by_cases h1 : k.val = 255
    · rw [fieldValue_top k h1, h1]
      exact ⟨fun _ => by omega, fun _ => EReal.coe_lt_top x⟩
    rw [fieldValue_mid k h0 h1, EReal.coe_lt_coe_iff]
    constructor
    · intro h
      have := (zpow_lt_zpow_iff_right₀ (by norm_num : (1 : ℝ) < 2)).1 (lt_of_le_of_lt hlo h)
      omega
    · intro h
      refine lt_of_lt_of_le hhi ((zpow_le_zpow_iff_right₀ (by norm_num : (1 : ℝ) < 2)).2 ?_)
      omega
  unfold expField
  rw [hmax]
  have hfun : (fun k : Fin 256 => if (x : EReal) < fieldValue k then 0#32 else 1#32)
      = fun k => (if N < k.val then 0#1 else 1#1).setWidth 32 := by
    funext k
    by_cases h : N < k.val
    · rw [if_pos ((hlt k).2 h), if_pos h]; rfl
    · rw [if_neg (fun h' => h ((hlt k).1 h')), if_neg h]; rfl
  rw [hfun, IndicatorCount.fold_addi_setWidth_eq_card]
  have hcard : ((Finset.univ : Finset (Fin 256)).filter fun k => (if N < k.val then 0#1 else 1#1) = 1#1).card = N + 1 := by
    have he : ((Finset.univ : Finset (Fin 256)).filter fun k => (if N < k.val then 0#1 else 1#1) = 1#1)
        = Finset.Iic (⟨N, by omega⟩ : Fin 256) := by
      ext k
      rw [Finset.mem_filter, Finset.mem_Iic, Fin.le_def]
      by_cases h : N < k.val
      · simp [h]
      · simp [h]; omega
    rw [he, Fin.card_Iic]
  rw [hcard]
  exact (by decide +kernel : ∀ N : Fin 253, IntOp.subi (BitVec.ofNat 32 (N.val + 1)) 1#32 = BitVec.ofNat 32 N.val) ⟨N, by omega⟩

/-- The field of zero is zero. -/
theorem expField_zero : expField 0 = 0#32 := by
  have hlt : ∀ k : Fin 256, ((0 : EReal) < fieldValue k ↔ 0 < k.val) := by
    intro k
    by_cases h0 : k.val = 0
    · rw [fieldValue_zero k h0, h0]; simp
    by_cases h1 : k.val = 255
    · rw [fieldValue_top k h1, h1]; simp
    rw [fieldValue_mid k h0 h1]
    exact ⟨fun _ => by omega, fun _ => EReal.coe_pos.2 (by positivity)⟩
  unfold expField
  rw [neg_zero, max_self]
  have hfun : (fun k : Fin 256 => if (0 : EReal) < fieldValue k then 0#32 else 1#32)
      = fun k => (if 0 < k.val then 0#1 else 1#1).setWidth 32 := by
    funext k
    by_cases h : 0 < k.val
    · rw [if_pos ((hlt k).2 h), if_pos h]; rfl
    · rw [if_neg (fun h' => h ((hlt k).1 h')), if_neg h]; rfl
  rw [hfun, IndicatorCount.fold_addi_setWidth_eq_card]
  have hcard : ((Finset.univ : Finset (Fin 256)).filter fun k => (if 0 < k.val then 0#1 else 1#1) = 1#1).card = 1 := by
    have he : ((Finset.univ : Finset (Fin 256)).filter fun k => (if 0 < k.val then 0#1 else 1#1) = 1#1)
        = {(⟨0, by omega⟩ : Fin 256)} := by
      ext k
      rw [Finset.mem_filter, Finset.mem_singleton, Fin.ext_iff]
      by_cases h : 0 < k.val
      · simp [h]; omega
      · simp [h]; omega
    rw [he, Finset.card_singleton]
  rw [hcard]
  rfl

/-- The field of infinity is 255. -/
theorem expField_top : expField ⊤ = 255#32 := by
  unfold expField
  rw [max_eq_left le_top]
  have hfun : (fun k : Fin 256 => if (⊤ : EReal) < fieldValue k then 0#32 else 1#32) = fun k => (1#1 : BitVec 1).setWidth 32 := by
    funext k
    rw [if_neg not_top_lt]; rfl
  rw [hfun, IndicatorCount.fold_addi_setWidth_eq_card]
  simp
  decide

/-- The word `2^e` of the exponent a field `N` gives, and of that exponent negated. -/
theorem words (N : Fin 253) (h : 1 ≤ N.val) :
    IntOp.addi (Scalar.select (IntOp.ori (IntOp.cmpi .eq (BitVec.ofNat 32 N.val) 0#32) (IntOp.cmpi .eq (BitVec.ofNat 32 N.val) 255#32)) 0#32
        (IntOp.subi (BitVec.ofNat 32 N.val) 126#32)) 127#32 = BitVec.ofNat 32 (N.val + 1)
    ∧ IntOp.addi (IntOp.subi 0#32 (Scalar.select (IntOp.ori (IntOp.cmpi .eq (BitVec.ofNat 32 N.val) 0#32) (IntOp.cmpi .eq (BitVec.ofNat 32 N.val) 255#32)) 0#32
        (IntOp.subi (BitVec.ofNat 32 N.val) 126#32))) 127#32 = BitVec.ofNat 32 (253 - N.val) :=
  (by decide +kernel : ∀ N : Fin 253, 1 ≤ N.val →
    IntOp.addi (Scalar.select (IntOp.ori (IntOp.cmpi .eq (BitVec.ofNat 32 N.val) 0#32) (IntOp.cmpi .eq (BitVec.ofNat 32 N.val) 255#32)) 0#32
        (IntOp.subi (BitVec.ofNat 32 N.val) 126#32)) 127#32 = BitVec.ofNat 32 (N.val + 1)
    ∧ IntOp.addi (IntOp.subi 0#32 (Scalar.select (IntOp.ori (IntOp.cmpi .eq (BitVec.ofNat 32 N.val) 0#32) (IntOp.cmpi .eq (BitVec.ofNat 32 N.val) 255#32)) 0#32
        (IntOp.subi (BitVec.ofNat 32 N.val) 126#32))) 127#32 = BitVec.ofNat 32 (253 - N.val)) N h

theorem pow2_rowExp (x : ℝ) (N : ℕ) (hN : 1 ≤ N ∧ N ≤ 252) (hlo : (2 : ℝ) ^ ((N : ℤ) - 127) ≤ x)
    (hhi : x < (2 : ℝ) ^ ((N : ℤ) - 126)) :
    pow2 (rowExp (x : EReal)) = (((2 : ℝ) ^ ((N : ℤ) - 126) : ℝ) : EReal)
    ∧ pow2 (IntOp.subi 0#32 (rowExp (x : EReal))) = (((2 : ℝ) ^ (126 - (N : ℤ)) : ℝ) : EReal) := by
  obtain ⟨hp, hm⟩ := words ⟨N, by omega⟩ hN.1
  dsimp only at hp hm
  unfold pow2 rowExp
  rw [expField_eq x N hN hlo hhi, hp, hm]
  constructor
  · refine (fieldValue_mid ⟨N + 1, by omega⟩ (by simp) (by simp; omega)).trans ?_
    congr 2; push_cast; ring
  · refine (fieldValue_mid ⟨253 - N, by omega⟩ (by simp; omega) (by simp; omega)).trans ?_
    congr 2
    rw [Nat.cast_sub (by omega : N ≤ 253)]
    push_cast; ring

theorem pow2_rowExp_zero : pow2 (rowExp 0) = 1 ∧ pow2 (IntOp.subi 0#32 (rowExp 0)) = 1 := by
  have h1 : Ideal.ofBits .f32 (IntOp.shli .vector (BitVec.ofNat 32 127) 23#32) = 1 := by
    refine (fieldValue_mid ⟨127, by omega⟩ (by simp) (by simp)).trans ?_
    norm_num
  unfold pow2 rowExp
  rw [expField_zero]
  exact ⟨h1, h1⟩

theorem pow2_rowExp_top : pow2 (rowExp ⊤) = 1 ∧ pow2 (IntOp.subi 0#32 (rowExp ⊤)) = 1 := by
  have h1 : Ideal.ofBits .f32 (IntOp.shli .vector (BitVec.ofNat 32 127) 23#32) = 1 := by
    refine (fieldValue_mid ⟨127, by omega⟩ (by simp) (by simp)).trans ?_
    norm_num
  unfold pow2 rowExp
  rw [expField_top]
  exact ⟨h1, h1⟩

theorem top_recip448 : (⊤ : EReal) * recip448 = ⊤ := by
  rw [recip448_eq]
  exact EReal.top_mul_coe_of_pos (by positivity)

/-! ## The scale -/

/-- An admitted magnitude neither zero nor infinite, divided by 448, lies between two powers of two of fields 1 to 252. -/
theorem bracket (a : EReal) (h : Normal a) (ha : ¬(a = 0 ∨ a = ⊤)) :
    ∃ (x : ℝ) (N : ℕ), a * recip448 = (x : EReal) ∧ (1 ≤ N ∧ N ≤ 252) ∧ (2 : ℝ) ^ ((N : ℤ) - 127) ≤ x ∧ x < (2 : ℝ) ^ ((N : ℤ) - 126) := by
  obtain h | ⟨hlo, hhi⟩ := h
  · exact absurd h ha
  rw [least_normal] at hlo
  rw [bound_above] at hhi
  induction a with
  | bot =>
    rw [recip448_eq, EReal.bot_mul_coe_of_pos (by positivity)] at hlo
    exact absurd hlo (not_le.2 (EReal.bot_lt_coe _))
  | top => exact absurd (Or.inr rfl) ha
  | coe y =>
    rw [recip448_eq, ← EReal.coe_mul] at hlo hhi
    rw [EReal.coe_le_coe_iff] at hlo
    rw [EReal.coe_lt_coe_iff] at hhi
    refine ⟨y * (9586981 * (2 : ℝ) ^ (-32 : ℤ)), ?_⟩
    set x : ℝ := y * (9586981 * (2 : ℝ) ^ (-32 : ℤ)) with hx
    have hx0 : 0 < x := lt_of_lt_of_le (by positivity) hlo
    have hx1 : x < (2 : ℝ) ^ (126 : ℤ) := hhi
    obtain ⟨n, hn⟩ := exists_mem_Ico_zpow hx0 (by norm_num : (1 : ℝ) < 2)
    have h1 : -126 < n + 1 := (zpow_lt_zpow_iff_right₀ (by norm_num : (1 : ℝ) < 2)).1 (lt_of_le_of_lt hlo hn.2)
    have h2 : n < 126 := (zpow_lt_zpow_iff_right₀ (by norm_num : (1 : ℝ) < 2)).1 (lt_of_le_of_lt hn.1 hx1)
    have hN : (((n + 127).toNat : ℕ) : ℤ) = n + 127 := Int.toNat_of_nonneg (by omega)
    refine ⟨(n + 127).toNat, ?_, ⟨by omega, by omega⟩, ?_, ?_⟩
    · rw [recip448_eq, ← EReal.coe_mul]
    · rw [hN, show n + 127 - 127 = n by ring]; exact hn.1
    · rw [hN, show n + 127 - 126 = n + 1 by ring]; exact hn.2

/-- The least power above a value between `2^(N-127)` and `2^(N-126)` is `2^(N-126)`. -/
theorem scale_of_bracket (a : EReal) (ha : ¬(a = 0 ∨ a = ⊤)) (x : ℝ) (N : ℕ) (hax : a * recip448 = (x : EReal)) (hN : 1 ≤ N ∧ N ≤ 252)
    (hlo : (2 : ℝ) ^ ((N : ℤ) - 127) ≤ x) (hhi : x < (2 : ℝ) ^ ((N : ℤ) - 126)) :
    scale a = (((2 : ℝ) ^ ((N : ℤ) - 126) : ℝ) : EReal) := by
  unfold scale
  rw [if_neg ha, hax, ofBits_inf]
  refine le_antisymm ?_ ?_
  · refine (Finset.fold_min_le _).2 (.inr ⟨⟨N + 2, by omega⟩, Finset.mem_univ _, ?_⟩)
    rw [power_eq]
    have he : (((⟨N + 2, by omega⟩ : Fin 256).val : ℤ) - 128) = (N : ℤ) - 126 := by push_cast; ring
    rw [he, if_pos (EReal.coe_lt_coe_iff.2 hhi)]
  · refine (Finset.le_fold_min _).2 ⟨le_top, fun k _ => ?_⟩
    split
    · rename_i h
      rw [power_eq, EReal.coe_lt_coe_iff] at h
      rw [power_eq, EReal.coe_le_coe_iff]
      have := (zpow_lt_zpow_iff_right₀ (by norm_num : (1 : ℝ) < 2)).1 (lt_of_le_of_lt hlo h)
      exact (zpow_le_zpow_iff_right₀ (by norm_num : (1 : ℝ) < 2)).2 (by omega)
    · exact le_top

/-- The two scales of an admitted row agree. -/
theorem scale_eq (a : EReal) (h : Normal a) : pow2 (rowExp (a * recip448)) = scale a := by
  by_cases ha : a = 0 ∨ a = ⊤
  · unfold scale
    rw [if_pos ha]
    obtain rfl | rfl := ha
    · rw [zero_mul, pow2_rowExp_zero.1]
    · rw [top_recip448, pow2_rowExp_top.1]
  · obtain ⟨x, N, hax, hN, hlo, hhi⟩ := bracket a h ha
    rw [scale_of_bracket a ha x N hax hN hlo hhi, hax, (pow2_rowExp x N hN hlo hhi).1]

/-- So do the reciprocals: `2^(-e)` and one over the scale. -/
theorem inv_eq (a : EReal) (h : Normal a) :
    pow2 (IntOp.subi 0#32 (rowExp (a * recip448))) = Ideal.div 1 (scale a) := by
  by_cases ha : a = 0 ∨ a = ⊤
  · unfold scale Ideal.div
    rw [if_pos ha, if_neg one_ne_zero, inv_one, mul_one]
    obtain rfl | rfl := ha
    · rw [zero_mul, pow2_rowExp_zero.2]
    · rw [top_recip448, pow2_rowExp_top.2]
  · obtain ⟨x, N, hax, hN, hlo, hhi⟩ := bracket a h ha
    rw [scale_of_bracket a ha x N hax hN hlo hhi, hax, (pow2_rowExp x N hN hlo hhi).2]
    have hp : (0 : ℝ) < (2 : ℝ) ^ ((N : ℤ) - 126) := by positivity
    unfold Ideal.div
    rw [if_neg (by rw [EReal.coe_eq_zero]; exact hp.ne'), one_mul, ← EReal.coe_inv, ← zpow_neg]
    congr 2; ring

end Cert.Proof.Scale

end
-- ==== Proof.Spec.lean ====
/-
  Hand-written, untrusted. THE RESULTS AS FUNCTIONS OF THE ARGUMENTS, one element at a time at the extended reals, which both
  programs' runs are read to: a row's largest magnitude, its codes, its quantised weights and the three products.
-/
module

public import proofs.«01_k».proof.Proof.Scale
public import Idealize.ShloMosaic.Lib.Pointwise

@[expose] public section

set_option maxRecDepth 16384

noncomputable section

namespace Cert.Proof.Scale

open Idealize.ShloMosaic

/-- The largest magnitude of a row of 2048 entries. -/
def maxAbs (w : Fin 2048 → EReal) : EReal :=
  (Finset.univ : Finset (Fin 2048)).fold max (Ideal.ofBits .f32 0xFF800000#32) fun k => FloatOps.absf (F := Ideal) (φ := .f32) (w k)

/-- An entry times `inv`, clipped to ±448. -/
def clip (inv x : EReal) : EReal :=
  min (Ideal.ofBits .f32 0x43E00000#32) (max (Ideal.ofBits .f32 0xC3E00000#32) (x * inv))

/-- The code of the row's entry `q`. -/
def code (w : Fin 2048 → EReal) (q : Fin 2048) : EReal := clip (Ideal.div 1 (scale (maxAbs w))) (w q)

/-- The quantised weight of the row's entry `q`: code times scale. -/
def weight (w : Fin 2048 → EReal) (q : Fin 2048) : EReal := code w q * scale (maxAbs w)

/-! ## The five results -/

/-- The arguments and results as functions of multi-indices: tokens by features, tokens by outputs, outputs by features. -/
abbrev Xs := (⟨3, ![3, 4096, 2048]⟩ : Shape).Idx → EReal
abbrev Gs := (⟨3, ![3, 4096, 4096]⟩ : Shape).Idx → EReal
abbrev Ws := (⟨2, ![4096, 2048]⟩ : Shape).Idx → EReal

/-- Row `r` of the weights. -/
def wrow (W : Ws) (r : Fin 4096) : Fin 2048 → EReal := fun k => W (ix2 r k)

/-- The forward product: `y[b, s, o] = ∑ k, x[b, s, k] · wq[o, k]`. -/
def resY (X : Xs) (W : Ws) : Gs := fun i => ∑ k : Fin 2048, X (ix3 (i 0) (i 1) k) * weight (wrow W (i 2)) k

/-- The input gradient: `dx[b, s, d] = ∑ o, g[b, s, o] · wq[o, d]`. -/
def resDx (G : Gs) (W : Ws) : Xs := fun i => ∑ k : Fin 4096, G (ix3 (i 0) (i 1) k) * weight (wrow W k) (i 2)

/-- The weight gradient: `dW[o, d] = ∑ b, ∑ s, g[b, s, o] · x[b, s, d]`. -/
def resDw (G : Gs) (X : Xs) : Ws := fun i => ∑ b : Fin 3, ∑ s : Fin 4096, G (ix3 b s (i 0)) * X (ix3 b s (i 1))

/-- The codes. -/
def resCodes (W : Ws) : Ws := fun i => code (wrow W (i 0)) (i 1)

/-- The scales. -/
def resScales (W : Ws) : (⟨1, ![4096]⟩ : Shape).Idx → EReal := fun i => scale (maxAbs (wrow W (i 0)))

theorem ix2_eta {a b : ℕ} (y : (⟨2, ![a, b]⟩ : Shape).Idx) : ∃ (r : Fin a) (q : Fin b), y = ix2 r q :=
  ⟨y 0, y 1, by funext k; match k with | ⟨0, _⟩ => rfl | ⟨1, _⟩ => rfl⟩

theorem ix3_eta {a b c : ℕ} (y : (⟨3, ![a, b, c]⟩ : Shape).Idx) : ∃ (r : Fin a) (q : Fin b) (p : Fin c), y = ix3 r q p :=
  ⟨y 0, y 1, y 2, by funext k; match k with | ⟨0, _⟩ => rfl | ⟨1, _⟩ => rfl | ⟨2, _⟩ => rfl⟩

theorem ix1_eta {a : ℕ} (y : (⟨1, ![a]⟩ : Shape).Idx) : ∃ r : Fin a, y = ix1 r :=
  ⟨y 0, by funext k; match k with | ⟨0, _⟩ => rfl⟩

end Cert.Proof.Scale

end
-- ==== Proof.Payload.lean ====
/-
  Hand-written, untrusted. WHAT THE KERNEL'S BODIES COMPUTE, one element at a time at the extended reals: the scale, the codes
  and the quantised weights of a block of 64 rows, and the three matrix products of a block.
-/
module

public import proofs.«01_k».proof.Proof.Spec
public import proofs.«01_k».proof.Proof.Gen.KernelIdeal.Skeleton
public import Idealize.ShloMosaic.Lib.MatmulPlain
public import Idealize.ShloMosaic.Lib.ValueIdx
public import Idealize.ShloMosaic.Lib.Pipeline.ValueKit

@[expose] public section

set_option maxRecDepth 16384

noncomputable section

namespace Cert.KernelIdeal.Gen

open Idealize.ShloMosaic Cert.Proof.Scale

/-- Row `r` of a block of 64 rows. -/
def row64 (v : Vec Ideal S64x2048 .f32) (r : Fin 64) : Fin 2048 → EReal := fun k => v (ix2 r k)

theorem pay5_apply (v : Vec Ideal S64x2048 .f32) (r : Fin 64) (q : Fin 1) :
    k0_pay5 v (ix2 r q) = rowExp (maxAbs (row64 v r) * recip448) := by
  pointwise [Cert.KernelIdeal.Gen.k0_pay5]
  rfl

/-- The block's scales. -/
theorem pay6_apply (v : Vec Ideal S64x2048 .f32) (r : Fin 64) (q : Fin 1) :
    k0_pay6 v (ix2 r q) = pow2 (rowExp (maxAbs (row64 v r) * recip448)) := by
  rw [← pay5_apply v r q]
  pointwise [Cert.KernelIdeal.Gen.k0_pay6]
  rfl

theorem pay7_apply (v : Vec Ideal S64x2048 .f32) (r : Fin 64) (q : Fin 1) :
    k0_pay7 v (ix2 r q) = IntOp.subi 0#32 (rowExp (maxAbs (row64 v r) * recip448)) := by
  rw [← pay5_apply v r q]
  pointwise [Cert.KernelIdeal.Gen.k0_pay7]

theorem pay1_apply' (v : Vec Ideal S64x2048 .f32) (e : IVec S64x1 32) (r : Fin 64) (q : Fin 2048) :
    k0_pay1 v e (ix2 r q) = clip (pow2 (e (ix2 r 0))) (v (ix2 r q)) := by
  pointwise [Cert.KernelIdeal.Gen.k0_pay1]
  rfl

theorem pay2_apply' (v : Vec Ideal S64x2048 .f32) (s : FVec Ideal S64x1 .f32) (e : IVec S64x1 32) (r : Fin 64) (q : Fin 2048) :
    k0_pay2 v s e (ix2 r q) = clip (pow2 (e (ix2 r 0))) (v (ix2 r q)) * s (ix2 r 0) := by
  rw [← pay1_apply' v e r q]
  pointwise [Cert.KernelIdeal.Gen.k0_pay2]

/-! ## The products -/

/-- The weight gradient's step: the block found plus, at `(i, j)`, the sum over the 768 rows of column `i` of the one block
    times column `j` of the other. -/
theorem pay3_apply (acc : Vec Ideal S1024x2048 .f32) (g : Vec Ideal S768x1024 .bf16) (x : Vec Ideal S768x2048 .bf16)
    (i : Fin 1024) (j : Fin 2048) :
    k0_pay3 acc g x (ix2 i j) = acc (ix2 i j) + ∑ k : Fin 768, g (ix2 k i) * x (ix2 k j) := by
  unfold k0_pay3
  rw [shapeCast_self, shapeCast_self, shapeCast_self]
  refine congrArg (acc (ix2 i j) + ·) ((Ideal.matmul_constant_zero_apply (φ₁ := .bf16) (φ₂ := .bf16) dot_S768x1024_S768x2048_S1024x2048_0_0_1_1_n_n none g x
    (ix2 i j)).trans ?_)
  rw [← Equiv.sum_comp (ValueIdx.contrEquiv1 dot_S768x1024_S768x2048_S1024x2048_0_0_1_1_n_n 768 rfl rfl).symm]
  refine Finset.sum_congr rfl fun k _ => ?_
  have hk := ValueIdx.contrEquiv1_symm_val dot_S768x1024_S768x2048_S1024x2048_0_0_1_1_n_n 768 rfl rfl k
  congr 1
  · congr 1; funext a; apply Fin.ext
    match a with
    | ⟨0, _⟩ => exact hk
    | ⟨1, _⟩ => rfl
  · congr 1; funext a; apply Fin.ext
    match a with
    | ⟨0, _⟩ => exact hk
    | ⟨1, _⟩ => rfl

theorem pay4_apply (j : S1024x2048.Idx) : k0_pay4 (F := Ideal) j = 0 := Ideal.ofBits_zero_f32

/-- A block of 512 rows times the transposed weights. -/
theorem k1_pay1_apply (x : Vec Ideal S512x2048 .bf16) (w : Vec Ideal S4096x2048 .bf16) (i : Fin 512) (j : Fin 4096) :
    k1_pay1 x w (ix2 i j) = ∑ k : Fin 2048, x (ix2 i k) * w (ix2 j k) := by
  unfold k1_pay1
  rw [shapeCast_self, shapeCast_self]
  refine (Ideal.matmul_constant_zero_apply (φ₁ := .bf16) (φ₂ := .bf16) dot_S512x2048_S4096x2048_S512x4096_1_1_0_0_n_n none x w (ix2 i j)).trans ?_
  rw [← Equiv.sum_comp (ValueIdx.contrEquiv1 dot_S512x2048_S4096x2048_S512x4096_1_1_0_0_n_n 2048 rfl rfl).symm]
  refine Finset.sum_congr rfl fun k _ => ?_
  have hk := ValueIdx.contrEquiv1_symm_val dot_S512x2048_S4096x2048_S512x4096_1_1_0_0_n_n 2048 rfl rfl k
  congr 1
  · congr 1; funext a; apply Fin.ext
    match a with
    | ⟨0, _⟩ => rfl
    | ⟨1, _⟩ => exact hk
  · congr 1; funext a; apply Fin.ext
    match a with
    | ⟨0, _⟩ => rfl
    | ⟨1, _⟩ => exact hk

/-- A block of 512 rows times the weights. -/
theorem k1_pay2_apply (g : Vec Ideal S512x4096 .bf16) (w : Vec Ideal S4096x2048 .bf16) (i : Fin 512) (j : Fin 2048) :
    k1_pay2 g w (ix2 i j) = ∑ k : Fin 4096, g (ix2 i k) * w (ix2 k j) := by
  unfold k1_pay2
  rw [shapeCast_self, shapeCast_self]
  refine (Ideal.matmul_constant_zero_apply (φ₁ := .bf16) (φ₂ := .bf16) dot_S512x4096_S4096x2048_S512x2048_1_0_0_1_n_n none g w (ix2 i j)).trans ?_
  rw [← Equiv.sum_comp (ValueIdx.contrEquiv1 dot_S512x4096_S4096x2048_S512x2048_1_0_0_1_n_n 4096 rfl rfl).symm]
  refine Finset.sum_congr rfl fun k _ => ?_
  have hk := ValueIdx.contrEquiv1_symm_val dot_S512x4096_S4096x2048_S512x2048_1_0_0_1_n_n 4096 rfl rfl k
  congr 1
  · congr 1; funext a; apply Fin.ext
    match a with
    | ⟨0, _⟩ => rfl
    | ⟨1, _⟩ => exact hk
  · congr 1; funext a; apply Fin.ext
    match a with
    | ⟨0, _⟩ => exact hk
    | ⟨1, _⟩ => rfl

end Cert.KernelIdeal.Gen

end
-- ==== Proof.Region0.lean ====
/-
  Hand-written, untrusted. THE FIRST REGION'S RESULT ARRAYS, at whatever contents it is entered with: the codes, the scales and
  the quantised weights of every row of the weights, and the weight gradient as one sum over the 12288 rows.
-/
module

public import proofs.«01_k».proof.Proof.Payload
public import proofs.«01_k».proof.Proof.Gen.KernelIdeal.Frame

@[expose] public section

set_option maxRecDepth 16384

noncomputable section

namespace Cert.KernelIdeal.Gen

open Idealize.ShloMosaic Idealize.ShloMosaic.TcCoe Cert.Proof.Scale
open Idealize.SL Idealize.SL.Sem

variable (V : (c : Dev nD) → (b : Ref sig .tc) → Buf (Elt Ideal) ((c : Thread nD τ).loc b))

/-- Row `r` of the weights. -/
abbrev row (v : Vec Ideal S4096x2048 .f32) (r : Fin 4096) : Fin 2048 → EReal := wrow v r

theorem idx0_0 : ∀ t : Fin cfg0.N, win0_0.index t = ![t.val % 16, t.val / 16] := (by decide +kernel : ∀ t : Fin grid0.N, _)
theorem idx0_1 : ∀ t : Fin cfg0.N, win0_1.index t = ![t.val % 16, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val / 16, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)

/-- The body's scales at a point. -/
theorem after_scale (c : Dev nD) (t : Fin cfg0.N) : (outsAt0 V c t.val t.isLt).2.2.1 = k0_pay6 (iblk0 V c 2 t) := by
  by_cases h : t.val % 16 = 0
  · rw [outsAt0_A V c t h]; frame_out
  · rw [outsAt0_B V c t h]; frame_out

/-- The body's codes at a point. -/
theorem after_code (c : Dev nD) (t : Fin cfg0.N) :
    (outsAt0 V c t.val t.isLt).2.1 = k0_pay1 (iblk0 V c 2 t) (k0_pay7 (iblk0 V c 2 t)) := by
  by_cases h : t.val % 16 = 0
  · rw [outsAt0_A V c t h]; frame_out
  · rw [outsAt0_B V c t h]; frame_out

/-- The body's quantised weights at a point. -/
theorem after_weight (c : Dev nD) (t : Fin cfg0.N) :
    (outsAt0 V c t.val t.isLt).2.2.2 = k0_pay2 (iblk0 V c 2 t) (k0_pay6 (iblk0 V c 2 t)) (k0_pay7 (iblk0 V c 2 t)) := by
  by_cases h : t.val % 16 = 0
  · rw [outsAt0_A V c t h]; frame_out
  · rw [outsAt0_B V c t h]; frame_out

theorem row_lt (t : Fin cfg0.N) (r : Fin 64) : t.val * 64 + r.val < 4096 := by
  have h : t.val < grid0.N := t.isLt
  rw [Gen.N_0] at h
  omega

/-- Row `r` of the weights' block at `t` is row `64 t + r` of the weights. -/
theorem row64_block (c : Dev nD) (t : Fin cfg0.N) (r : Fin 64) :
    row64 (iblk0 V c 2 t) r = row (V c main_arg1) ⟨t.val * 64 + r.val, row_lt t r⟩ := by
  funext k
  unfold row64 row wrow
  blk_simp [iblk0]
  congr 1
  blk_ext [idx0_2]

/-- The scales' array. -/
theorem final_scale (c : Dev nD) : (dat0 V c).arrAt 5 cfg0.N
    = fun i => pow2 (rowExp (maxAbs (row (V c main_arg1) (i 0)) * recip448)) := by
  refine (dat0 V c).arrAt_eq_of_covers 5 _ (by decide +kernel) fun t hf y => ?_
  blk_simp
  rw [after0_5, after_scale]
  obtain ⟨r, q, rfl⟩ := ix2_eta (a := 64) (b := 1) y
  have e : (win0_5.blk t).view.emb (ix2 r q) 0 = (⟨t.val * 64 + r.val, row_lt t r⟩ : Fin 4096) := by
    apply Fin.ext; blk_simp [idx0_5]
  rw [pay6_apply, row64_block, e]

/-- The codes' array. -/
theorem final_code (c : Dev nD) : (dat0 V c).arrAt 4 cfg0.N
    = fun i => clip (pow2 (IntOp.subi 0#32 (rowExp (maxAbs (row (V c main_arg1) (i 0)) * recip448)))) (row (V c main_arg1) (i 0) (i 1)) := by
  refine (dat0 V c).arrAt_eq_of_covers 4 _ (by decide +kernel) fun t hf y => ?_
  blk_simp
  rw [after0_4, after_code]
  obtain ⟨r, q, rfl⟩ := ix2_eta (a := 64) (b := 2048) y
  have e : (win0_4.blk t).view.emb (ix2 r q) 0 = (⟨t.val * 64 + r.val, row_lt t r⟩ : Fin 4096) := by
    apply Fin.ext; blk_simp [idx0_4]
  have e' : (win0_4.blk t).view.emb (ix2 r q) 1 = (q : Fin 2048) := by
    apply Fin.ext; blk_simp [idx0_4]
  rw [pay1_apply', pay7_apply, row64_block, e, e', ← row64_block V c t r]
  rfl

/-- The quantised weights' array. -/
theorem final_weight (c : Dev nD) : (dat0 V c).arrAt 6 cfg0.N
    = fun i => clip (pow2 (IntOp.subi 0#32 (rowExp (maxAbs (row (V c main_arg1) (i 0)) * recip448)))) (row (V c main_arg1) (i 0) (i 1))
        * pow2 (rowExp (maxAbs (row (V c main_arg1) (i 0)) * recip448)) := by
  refine (dat0 V c).arrAt_eq_of_covers 6 _ (by decide +kernel) fun t hf y => ?_
  blk_simp
  rw [after0_6, after_weight]
  obtain ⟨r, q, rfl⟩ := ix2_eta (a := 64) (b := 2048) y
  have e : (win0_6.blk t).view.emb (ix2 r q) 0 = (⟨t.val * 64 + r.val, row_lt t r⟩ : Fin 4096) := by
    apply Fin.ext; blk_simp [idx0_6]
  have e' : (win0_6.blk t).view.emb (ix2 r q) 1 = (q : Fin 2048) := by
    apply Fin.ext; blk_simp [idx0_6]
  rw [pay2_apply', pay7_apply, pay6_apply, row64_block, e, e', ← row64_block V c t r]
  rfl

/-! ## The weight gradient -/

/-- The gradient block after a point that starts a run of sixteen. -/
theorem after_dw_A (c : Dev nD) (t : Fin cfg0.N) (h : t.val % 16 = 0) (j : S1024x2048.Idx) :
    (outsAt0 V c t.val t.isLt).1 j = k0_pay3 (F := Ideal) (k0_pay4 (F := Ideal)) (iblk0 V c 0 t) (iblk0 V c 1 t) j := by
  rw [outsAt0_A V c t h]; frame_out

/-- The gradient block after any other point. -/
theorem after_dw_B (c : Dev nD) (t : Fin cfg0.N) (h : ¬t.val % 16 = 0) (j : S1024x2048.Idx) :
    (outsAt0 V c t.val t.isLt).1 j = k0_pay3 (F := Ideal) (outsAt0 V c (t.val - 1) (Nat.lt_of_le_of_lt (Nat.sub_le _ _) t.isLt)).1
      (iblk0 V c 0 t) (iblk0 V c 1 t) j := by
  rw [outsAt0_B V c t h]; frame_out

/-- The rows of the two arrays the gradient is a product of. -/
def gRow (c : Dev nD) (l : Fin 12288) (o : Fin 4096) : EReal := (V c main_v1 : Vec Ideal S12288x4096 .bf16) (ix2 l o)
def xRow (c : Dev nD) (l : Fin 12288) (d : Fin 2048) : EReal := (V c main_v0 : Vec Ideal S12288x2048 .bf16) (ix2 l d)

theorem tok_lt (t : Fin cfg0.N) (k : Fin 768) : t.val % 16 * 768 + k.val < 12288 := by omega
theorem out_lt (t : Fin cfg0.N) (o : Fin 1024) : t.val / 16 * 1024 + o.val < 4096 := by
  have h : t.val < grid0.N := t.isLt
  rw [Gen.N_0] at h
  omega

theorem block0_0 (c : Dev nD) (t : Fin cfg0.N) (k : Fin 768) (o : Fin 1024) :
    (iblk0 V c 0 t : Vec Ideal S768x1024 .bf16) (ix2 k o) = gRow V c ⟨t.val % 16 * 768 + k.val, tok_lt t k⟩ ⟨t.val / 16 * 1024 + o.val, out_lt t o⟩ := by
  unfold gRow
  blk_simp [iblk0]
  congr 1
  blk_ext [idx0_0]

theorem block0_1 (c : Dev nD) (t : Fin cfg0.N) (k : Fin 768) (d : Fin 2048) :
    (iblk0 V c 1 t : Vec Ideal S768x2048 .bf16) (ix2 k d) = xRow V c ⟨t.val % 16 * 768 + k.val, tok_lt t k⟩ d := by
  unfold xRow
  blk_simp [iblk0]
  congr 1
  blk_ext [idx0_1]

/-- What a point adds to the gradient block: its 768 rows' part of the sum. -/
def dwTerm (c : Dev nD) (t : Fin cfg0.N) (j : S1024x2048.Idx) : EReal :=
  ∑ k : Fin 768, gRow V c ⟨t.val % 16 * 768 + k.val, tok_lt t k⟩ ⟨t.val / 16 * 1024 + (j 0).val, out_lt t (j 0)⟩
    * xRow V c ⟨t.val % 16 * 768 + k.val, tok_lt t k⟩ (j 1)

theorem pay3_split (acc : Vec Ideal S1024x2048 .f32) (c : Dev nD) (t : Fin cfg0.N) (j : S1024x2048.Idx) :
    k0_pay3 (F := Ideal) acc (iblk0 V c 0 t) (iblk0 V c 1 t) j = (acc j : EReal) + dwTerm V c t j := by
  obtain ⟨a, b, rfl⟩ := ix2_eta (a := 1024) (b := 2048) j
  refine (pay3_apply acc _ _ a b).trans (congrArg (acc (ix2 a b) + ·) (Finset.sum_congr rfl fun k _ => ?_))
  exact congrArg₂ (fun u v : EReal => u * v) (block0_0 V c t k a) (block0_1 V c t k b)

/-- The weight gradient's array: at `(o, d)`, the sum over the 12288 rows. -/
theorem final_dw (c : Dev nD) : (dat0 V c).arrAt 3 cfg0.N
    = fun i => (∑ l : Fin 12288, gRow V c l (i 0) * xRow V c l (i 1) : EReal) := by
  refine (dat0 V c).arrAt_eq_of_covers 3 _ (by decide +kernel) fun t hf y => ?_
  blk_simp
  rw [after0_3]
  have hl : t.val % 16 = 16 - 1 := (flush0_3 t).mp hf
  have key := Pipeline.eq_sum_fin_of_reset_step_apply_of_flush (M := EReal) (N := cfg0.N) (ι := S1024x2048.Idx)
    (fun n h => (outsAt0 V c n h).1) 16 (fun _ => 0) (dwTerm V c)
    (fun t h j => by rw [after_dw_A V c t h j, pay3_split, pay4_apply])
    (fun t h j => by rw [after_dw_B V c t h j, pay3_split]) t hl y
  refine key.trans ?_
  rw [zero_add]
  obtain ⟨a, b, rfl⟩ := ix2_eta (a := 1024) (b := 2048) y
  have e : (win0_3.blk t).view.emb (ix2 a b) 0 = (⟨t.val / 16 * 1024 + a.val, out_lt t a⟩ : Fin 4096) := by
    apply Fin.ext; blk_simp [idx0_3]
  have e' : (win0_3.blk t).view.emb (ix2 a b) 1 = (b : Fin 2048) := by
    apply Fin.ext; blk_simp [idx0_3]
  rw [e, e']
  refine Fin.sum_mul_add_congr (S := 16) (n := 768) (fun s k hl => ?_) (by norm_num)
  have h1 : (16 * (t.val / 16) + s.val) % 16 = s.val := by omega
  have h2 : (16 * (t.val / 16) + s.val) / 16 = t.val / 16 := by omega
  simp only [h1, h2]
  rfl

end Cert.KernelIdeal.Gen

end
-- ==== Proof.Region1.lean ====
/-
  Hand-written, untrusted. THE SECOND REGION'S RESULT ARRAYS, at whatever contents it is entered with: each entry of the forward
  product and of the input gradient as one sum.
-/
module

public import proofs.«01_k».proof.Proof.Region0
public import proofs.«01_k».proof.Proof.Gen.KernelIdeal.Frame

@[expose] public section

set_option maxRecDepth 16384

noncomputable section

namespace Cert.KernelIdeal.Gen

open Idealize.ShloMosaic Idealize.ShloMosaic.TcCoe Cert.Proof.Scale
open Idealize.SL Idealize.SL.Sem

variable (V : (c : Dev nD) → (b : Ref sig .tc) → Buf (Elt Ideal) ((c : Thread nD τ).loc b))

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![t.val, 0] := (by decide +kernel : ∀ t : Fin grid1.N, _)
theorem idx1_4 : ∀ t : Fin cfg1.N, win1_4.index t = ![t.val, 0] := (by decide +kernel : ∀ t : Fin grid1.N, _)

/-- The quantised weights the region reads. -/
def wRow (c : Dev nD) (o : Fin 4096) (d : Fin 2048) : EReal := (V c main_v2_3 : Vec Ideal S4096x2048 .bf16) (ix2 o d)

theorem row1_lt (t : Fin cfg1.N) (r : Fin 512) : t.val * 512 + r.val < 12288 := by
  have h : t.val < grid1.N := t.isLt
  rw [Gen.N_1] at h
  omega

theorem block1_0 (c : Dev nD) (t : Fin cfg1.N) (r : Fin 512) (k : Fin 2048) :
    (iblk1 V c 0 t : Vec Ideal S512x2048 .bf16) (ix2 r k)
      = xRow V c ⟨t.val * 512 + r.val, row1_lt t r⟩ k := by
  unfold xRow
  blk_simp [iblk1]
  congr 1
  blk_ext [idx1_0]

theorem block1_1 (c : Dev nD) (t : Fin cfg1.N) (r : Fin 512) (k : Fin 4096) :
    (iblk1 V c 1 t : Vec Ideal S512x4096 .bf16) (ix2 r k)
      = gRow V c ⟨t.val * 512 + r.val, row1_lt t r⟩ k := by
  unfold gRow
  blk_simp [iblk1]
  congr 1
  blk_ext [idx1_1]

theorem block1_2 (c : Dev nD) (t : Fin cfg1.N) (r : Fin 4096) (k : Fin 2048) :
    (iblk1 V c 2 t : Vec Ideal S4096x2048 .bf16) (ix2 r k) = wRow V c r k := by
  unfold wRow
  blk_simp [iblk1]
  congr 1
  blk_ext [idx1_2]

/-- The forward product's array. -/
theorem final_y (c : Dev nD) : (dat1 V c).arrAt 3 cfg1.N
    = fun i => (∑ k : Fin 2048, xRow V c (i 0) k * wRow V c (i 1) k : EReal) := by
  refine (dat1 V c).arrAt_eq_of_covers 3 _ (by decide +kernel) fun t hf y => ?_
  blk_simp
  rw [after1_3]; frame_out
  obtain ⟨r, q, rfl⟩ := ix2_eta (a := 512) (b := 4096) y
  have e : (win1_3.blk t).view.emb (ix2 r q) 0 = (⟨t.val * 512 + r.val, row1_lt t r⟩ : Fin 12288) := by
    apply Fin.ext; blk_simp [idx1_3]
  have e' : (win1_3.blk t).view.emb (ix2 r q) 1 = (q : Fin 4096) := by
    apply Fin.ext; blk_simp [idx1_3]
  rw [k1_pay1_apply, e, e']
  exact Finset.sum_congr (M := EReal) rfl fun k _ => congrArg₂ (fun u v : EReal => u * v) (block1_0 V c t r k) (block1_2 V c t q k)

/-- The input gradient's array. -/
theorem final_dx (c : Dev nD) : (dat1 V c).arrAt 4 cfg1.N
    = fun i => (∑ k : Fin 4096, gRow V c (i 0) k * wRow V c k (i 1) : EReal) := by
  refine (dat1 V c).arrAt_eq_of_covers 4 _ (by decide +kernel) fun t hf y => ?_
  blk_simp
  rw [after1_4]; frame_out
  obtain ⟨r, q, rfl⟩ := ix2_eta (a := 512) (b := 2048) y
  have e : (win1_4.blk t).view.emb (ix2 r q) 0 = (⟨t.val * 512 + r.val, row1_lt t r⟩ : Fin 12288) := by
    apply Fin.ext; blk_simp [idx1_4]
  have e' : (win1_4.blk t).view.emb (ix2 r q) 1 = (q : Fin 2048) := by
    apply Fin.ext; blk_simp [idx1_4]
  rw [k1_pay2_apply, e, e']
  exact Finset.sum_congr (M := EReal) rfl fun k _ => congrArg₂ (fun u v : EReal => u * v) (block1_1 V c t r k) (block1_2 V c t k q)

end Cert.KernelIdeal.Gen

end
-- ==== Proof.Reshapes.lean ====
/-
  Hand-written, untrusted. TOKENS FLATTENED: an array of 3 × 4096 tokens read as 12288 rows, row `4096 b + s` token `(b, s)`, and back.
-/
module

public import proofs.«01_k».proof.Proof.Spec
public import Idealize.ShloMosaic.Lib.Pipeline.Value

@[expose] public section

set_option maxRecDepth 16384

noncomputable section

namespace Cert.Proof.Scale

open Idealize.ShloMosaic

theorem flat_lt (b : Fin 3) (s : Fin 4096) : b.val * 4096 + s.val < 12288 := by omega

/-- The flattened array at row `4096 b + s`. -/
theorem flat_apply {α : Type} (n : ℕ) (x : (⟨3, ![3, 4096, n]⟩ : Shape).Idx → α)
    (h : (⟨3, ![3, 4096, n]⟩ : Shape).ShapeCasts ⟨2, ![12288, n]⟩) (b : Fin 3) (s : Fin 4096) (d : Fin n) :
    shapeCast ⟨2, ![12288, n]⟩ x h (ix2 ⟨b.val * 4096 + s.val, flat_lt b s⟩ d) = x (ix3 b s d) := by
  refine Idealize.ShloMosaic.shapeCast_apply x h _ _ ?_
  rw [Shape.rowMajor_val_two, Shape.rowMajor_val_three]
  rfl

/-- Rows split back into tokens. -/
theorem unflat_apply {α : Type} (n : ℕ) (x : (⟨2, ![12288, n]⟩ : Shape).Idx → α)
    (h : (⟨2, ![12288, n]⟩ : Shape).ShapeCasts ⟨3, ![3, 4096, n]⟩) (b : Fin 3) (s : Fin 4096) (d : Fin n) :
    shapeCast ⟨3, ![3, 4096, n]⟩ x h (ix3 b s d) = x (ix2 ⟨b.val * 4096 + s.val, flat_lt b s⟩ d) := by
  refine Idealize.ShloMosaic.shapeCast_apply x h _ _ ?_
  rw [Shape.rowMajor_val_two, Shape.rowMajor_val_three]
  rfl

/-- A column read as a vector. -/
theorem uncolumn_apply {α : Type} (n : ℕ) (x : (⟨2, ![n, 1]⟩ : Shape).Idx → α) (h : (⟨2, ![n, 1]⟩ : Shape).ShapeCasts ⟨1, ![n]⟩)
    (r : Fin n) : shapeCast ⟨1, ![n]⟩ x h (ix1 r) = x (ix2 r 0) := by
  refine Idealize.ShloMosaic.shapeCast_apply x h _ _ ?_
  rw [Shape.rowMajor_val_two, Shape.rowMajor_val_one]
  show r.val * 1 + 0 = r.val
  omega

end Cert.Proof.Scale

end
-- ==== Proof.KernelValue.lean ====
/-
  Hand-written, untrusted. THE KERNEL'S RESULTS, from its last boundary's contents back through the host reshapes and the two regions: under
  the precondition's reading of the rows, each of the five is its specification at the arguments as launched.
-/
module

public import proofs.«01_k».proof.Proof.KernelRun
public import proofs.«01_k».proof.Proof.Region1
public import proofs.«01_k».proof.Proof.Reshapes
public import Idealize.ShloMosaic.Lib.StableHlo.Run

@[expose] public section

set_option maxRecDepth 16384

noncomputable section

namespace Cert.KernelIdeal.Gen

open Idealize.ShloMosaic Idealize.ShloMosaic.TcCoe Cert.Proof.Scale
open Idealize.SL Idealize.SL.Sem

variable (m : (ℓ : Loc nD τ sig) → Buf (Elt Ideal) ℓ) (ρ : Dev nD → PrngReg)

/-- The arguments as launched. -/
abbrev argW (c : Dev nD) : Ws := (m ((c : Thread nD τ).loc main_arg1) : Vec Ideal S4096x2048 .f32)
abbrev argX (c : Dev nD) : Xs := (m ((c : Thread nD τ).loc main_arg0) : Vec Ideal S3x4096x2048 .bf16)
abbrev argG (c : Dev nD) : Gs := (m ((c : Thread nD τ).loc main_arg2) : Vec Ideal S3x4096x4096 .bf16)

/-! ## The host reshapes -/

theorem head_x (U : Valuation τ sig (Elt Ideal)) : StableHlo.after hostOps0 U (Proc.devRef .tc main_v0)
    = shapeCast S12288x2048 (U (Proc.devRef .tc main_arg0)) shapeCasts_S3x4096x2048_S12288x2048 := by
  after_results
  rfl
theorem head_g (U : Valuation τ sig (Elt Ideal)) : StableHlo.after hostOps0 U (Proc.devRef .tc main_v1)
    = shapeCast S12288x4096 (U (Proc.devRef .tc main_arg2)) shapeCasts_S3x4096x4096_S12288x4096 := by
  after_results
  rfl
theorem tail_y (U : Valuation τ sig (Elt Ideal)) : StableHlo.after hostOps2 U (Proc.devRef .tc main_v4)
    = shapeCast S3x4096x4096 (U (Proc.devRef .tc main_v3_0)) shapeCasts_S12288x4096_S3x4096x4096 := by
  after_results
  rfl
theorem tail_dx (U : Valuation τ sig (Elt Ideal)) : StableHlo.after hostOps2 U (Proc.devRef .tc main_v5)
    = shapeCast S3x4096x2048 (U (Proc.devRef .tc main_v3_1)) shapeCasts_S12288x2048_S3x4096x2048 := by
  after_results
  rfl
theorem tail_scales (U : Valuation τ sig (Elt Ideal)) : StableHlo.after hostOps2 U (Proc.devRef .tc main_v6)
    = shapeCast S4096 (U (Proc.devRef .tc main_v2_2)) shapeCasts_S4096x1_S4096 := by
  after_results
  rfl

/-! ## What the regions are entered with -/

theorem V1_W (c : Dev nD) : V1 m ρ c main_arg1 = m ((c : Thread nD τ).loc main_arg1) := W1_args m ρ c main_arg1 (by decide)

theorem V1_x (c : Dev nD) (b : Fin 3) (s : Fin 4096) (d : Fin 2048) :
    xRow (V1 m ρ) c ⟨b.val * 4096 + s.val, flat_lt b s⟩ d = argX m c (ix3 b s d) := by
  unfold xRow
  show (W1 m ρ c (Proc.devRef .tc main_v0) : Vec Ideal S12288x2048 .bf16) _ = _
  rw [show W1 m ρ c (Proc.devRef .tc main_v0) = _ from head_x (W0 m ρ c)]
  exact flat_apply 2048 _ _ b s d

theorem V1_g (c : Dev nD) (b : Fin 3) (s : Fin 4096) (o : Fin 4096) :
    gRow (V1 m ρ) c ⟨b.val * 4096 + s.val, flat_lt b s⟩ o = argG m c (ix3 b s o) := by
  unfold gRow
  show (W1 m ρ c (Proc.devRef .tc main_v1) : Vec Ideal S12288x4096 .bf16) _ = _
  rw [show W1 m ρ c (Proc.devRef .tc main_v1) = _ from head_g (W0 m ρ c)]
  exact flat_apply 4096 _ _ b s o

theorem V2_x (c : Dev nD) (l : Fin 12288) (d : Fin 2048) : xRow (V2 m ρ) c l d = xRow (V1 m ρ) c l d := by
  unfold xRow
  exact congrFun (W2_of m ρ c main_v0 (by decide)) _

theorem V2_g (c : Dev nD) (l : Fin 12288) (o : Fin 4096) : gRow (V2 m ρ) c l o = gRow (V1 m ρ) c l o := by
  unfold gRow
  exact congrFun (W2_of m ρ c main_v1 (by decide)) _

/-! ## The quantiser, in the specification's words -/

section
variable (hN : ∀ (c : Dev nD) (r : Fin 4096), Normal (maxAbs (wrow (argW m c) r)))
include hN

theorem codes_eq (c : Dev nD) : (dat0 (V1 m ρ) c).arrAt 4 cfg0.N = resCodes (argW m c) := by
  rw [final_code, V1_W]
  funext i
  unfold resCodes code
  rw [inv_eq _ (hN c (i 0))]

theorem scales_eq (c : Dev nD) : (dat0 (V1 m ρ) c).arrAt 5 cfg0.N = fun i => scale (maxAbs (wrow (argW m c) (i 0))) := by
  rw [final_scale, V1_W]
  funext i
  exact scale_eq _ (hN c (i 0))

theorem weights_eq (c : Dev nD) : (dat0 (V1 m ρ) c).arrAt 6 cfg0.N = fun i => weight (wrow (argW m c) (i 0)) (i 1) := by
  rw [final_weight, V1_W]
  funext i
  unfold weight code
  rw [inv_eq _ (hN c (i 0)), scale_eq _ (hN c (i 0))]

theorem V2_w (c : Dev nD) (o : Fin 4096) (d : Fin 2048) : wRow (V2 m ρ) c o d = weight (wrow (argW m c) o) d := by
  unfold wRow
  show (W2 m ρ c (Proc.devRef .tc main_v2_3) : Vec Ideal S4096x2048 .bf16) _ = _
  rw [show W2 m ρ c (Proc.devRef .tc main_v2_3) = _ from (W2_arr m ρ c 6).trans (weights_eq m ρ hN c)]
  rfl

/-! ## The results -/

theorem end_y (c : Dev nD) : W4 m ρ c (Proc.devRef .tc main_v4) = resY (argX m c) (argW m c) := by
  rw [show W4 m ρ c (Proc.devRef .tc main_v4) = _ from tail_y (W3 m ρ c),
    show W3 m ρ c (Proc.devRef .tc main_v3_0) = _ from (W3_arr m ρ c 3).trans (final_y (V2 m ρ) c)]
  funext i
  obtain ⟨b, s, o, rfl⟩ := ix3_eta (a := 3) (b := 4096) (c := 4096) i
  refine (unflat_apply 4096 _ _ b s o).trans ?_
  refine Finset.sum_congr (M := EReal) rfl fun k _ => congrArg₂ (fun u v : EReal => u * v) ?_ ?_
  · exact (V2_x m ρ c _ k).trans (V1_x m ρ c b s k)
  · exact V2_w m ρ hN c o k

theorem end_dx (c : Dev nD) : W4 m ρ c (Proc.devRef .tc main_v5) = resDx (argG m c) (argW m c) := by
  rw [show W4 m ρ c (Proc.devRef .tc main_v5) = _ from tail_dx (W3 m ρ c),
    show W3 m ρ c (Proc.devRef .tc main_v3_1) = _ from (W3_arr m ρ c 4).trans (final_dx (V2 m ρ) c)]
  funext i
  obtain ⟨b, s, d, rfl⟩ := ix3_eta (a := 3) (b := 4096) (c := 2048) i
  refine (unflat_apply 2048 _ _ b s d).trans ?_
  refine Finset.sum_congr (M := EReal) rfl fun k _ => congrArg₂ (fun u v : EReal => u * v) ?_ ?_
  · exact (V2_g m ρ c _ k).trans (V1_g m ρ c b s k)
  · exact V2_w m ρ hN c k d

theorem end_codes (c : Dev nD) : W4 m ρ c (Proc.devRef .tc main_v2_1) = resCodes (argW m c) :=
  (W4_of m ρ c main_v2_1 (by decide)).trans ((W3_of m ρ c main_v2_1 (by decide)).trans ((W2_arr m ρ c 4).trans (codes_eq m ρ hN c)))

theorem end_scales (c : Dev nD) : W4 m ρ c (Proc.devRef .tc main_v6) = resScales (argW m c) := by
  rw [show W4 m ρ c (Proc.devRef .tc main_v6) = _ from tail_scales (W3 m ρ c),
    show W3 m ρ c (Proc.devRef .tc main_v2_2) = _ from
      (W3_of m ρ c main_v2_2 (by decide)).trans ((W2_arr m ρ c 5).trans (scales_eq m ρ hN c))]
  funext i
  obtain ⟨r, rfl⟩ := ix1_eta (a := 4096) i
  exact uncolumn_apply 4096 _ _ r

end

theorem end_dw (c : Dev nD) : W4 m ρ c (Proc.devRef .tc main_v2_0) = resDw (argG m c) (argX m c) := by
  refine (W4_of m ρ c main_v2_0 (by decide)).trans ((W3_of m ρ c main_v2_0 (by decide)).trans ((W2_arr m ρ c 3).trans ?_))
  rw [final_dw]
  funext i
  obtain ⟨o, d, rfl⟩ := ix2_eta (a := 4096) (b := 2048) i
  symm
  refine Fin.sum_mul_add_congr (M := EReal) (S := 3) (n := 4096) (fun b s hl => ?_) (by norm_num)
  exact (congrArg₂ (fun u v : EReal => u * v) (V1_g m ρ c b s o) (V1_x m ρ c b s d)).symm

/-- The kernel's run: the five results at their specifications. -/
theorem run_spec (hN : ∀ (c : Dev nD) (r : Fin 4096), Normal (maxAbs (wrow (argW m c) r))) :
    θ_run defs (onTc (τ := τ) (main (F := Ideal))) ⟨m, fun _ => 0, ρ⟩ (fun r => ∀ c : Dev nD,
      r.2.mem ((c.tc : Thread nD τ).loc main_v4) = resY (argX m c) (argW m c)
      ∧ r.2.mem ((c.tc : Thread nD τ).loc main_v5) = resDx (argG m c) (argW m c)
      ∧ r.2.mem ((c.tc : Thread nD τ).loc main_v2_0) = resDw (argG m c) (argX m c)
      ∧ r.2.mem ((c.tc : Thread nD τ).loc main_v2_1) = resCodes (argW m c)
      ∧ r.2.mem ((c.tc : Thread nD τ).loc main_v6) = resScales (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans (end_y m ρ hN c), (h c).2.1.trans (end_dx m ρ hN c), (h c).2.2.1.trans (end_dw m ρ c),
     (h c).2.2.2.1.trans (end_codes m ρ hN c), (h c).2.2.2.2.1.trans (end_scales m ρ hN c), (h c).2.2.2.2.2⟩) (run_results m ρ)

end Cert.KernelIdeal.Gen

end
-- ==== Proof.RefPayload.lean ====
/-
  Hand-written, untrusted. WHAT THE REFERENCE'S QUANTISER COMPUTES, one element at a time at the extended reals: the scale, the
  codes and the quantised weights of
  every row.
-/
module

public import proofs.«01_k».proof.Proof.Spec
public import proofs.«01_k».proof.Proof.Gen.ReferenceIdeal.Skeleton
public import Idealize.ShloMosaic.Lib.ValueIdx
public import Idealize.ShloMosaic.Lib.ValueLayoutCasts
public import Idealize.ShloMosaic.Lib.Pipeline.ValueKit

@[expose] public section

set_option maxRecDepth 16384

noncomputable section

namespace Cert.ReferenceIdeal.Gen

open Idealize.ShloMosaic Cert.Proof.Scale

/-- Row `r` of the weights. -/
abbrev row (v : Vec Ideal S4096x2048 .f32) (r : Fin 4096) : Fin 2048 → EReal := wrow v r

/-- The quantiser's scale over `n` rows, as its body states it. -/
def rowScale (n : ℕ) (h1 : (⟨2, ![n, 2048]⟩ : Shape).Reduces [1] ⟨1, ![n]⟩) (h2 : (⟨1, ![n]⟩ : Shape).ShapeCasts ⟨2, ![n, 1]⟩)
    (h3 : (⟨2, ![n, 256]⟩ : Shape).Iotas .tc 32 [1]) (h4 : (⟨2, ![n, 1]⟩ : Shape).Broadcasts ⟨2, ![n, 256]⟩)
    (h5 : (⟨2, ![n, 256]⟩ : Shape).Reduces [1] ⟨1, ![n]⟩) (v0 : FVec Ideal ⟨2, ![n, 2048]⟩ .f32) : FVec Ideal ⟨2, ![n, 1]⟩ .f32 :=
  have v1 : FVec Ideal ⟨2, ![n, 2048]⟩ .f32 := absf v0
  have v2 : FVec Ideal ⟨1, ![n]⟩ .f32 := multiReduction .maximumf [1] ⟨1, ![n]⟩ v1 0xFF800000#32 h1 (.inl rfl) rfl
  have v3 : FVec Ideal ⟨2, ![n, 1]⟩ .f32 := shapeCast ⟨2, ![n, 1]⟩ v2 h2
  have v4 : IVec ⟨2, ![n, 256]⟩ 32 := iota .tc ⟨2, ![n, 256]⟩ 32 [1] h3
  have v5 : IVec ⟨2, ![n, 256]⟩ 32 := broadcast ⟨2, ![n, 256]⟩ 128#32
  have v6 : IVec ⟨2, ![n, 256]⟩ 32 := subi v4 v5
  have v7 : FVec Ideal ⟨2, ![n, 256]⟩ .f32 := sitofp .f32 v6
  have v8 : FVec Ideal ⟨2, ![n, 256]⟩ .f32 := exp2 v7
  have cst_1 : Ideal .f32 := Scalar.ofBits .f32 0x3B124925#32
  have v9 : FVec Ideal ⟨2, ![n, 1]⟩ .f32 := broadcast ⟨2, ![n, 1]⟩ cst_1
  have v10 : FVec Ideal ⟨2, ![n, 1]⟩ .f32 := mulf v3 v9
  have v11 : FVec Ideal ⟨2, ![n, 256]⟩ .f32 := broadcastTo ⟨2, ![n, 256]⟩ v10 h4
  have v12 : IVec ⟨2, ![n, 256]⟩ 1 := cmpf .ogt v8 v11
  have cst_2 : Ideal .f32 := Scalar.ofBits .f32 0x7F800000#32
  have v13 : FVec Ideal ⟨2, ![n, 256]⟩ .f32 := broadcast ⟨2, ![n, 256]⟩ cst_2
  have v14 : FVec Ideal ⟨2, ![n, 256]⟩ .f32 := select v12 v8 v13
  have v15 : FVec Ideal ⟨1, ![n]⟩ .f32 := multiReduction .minimumf [1] ⟨1, ![n]⟩ v14 0x7F800000#32 h5 (.inl rfl) rfl
  have v16 : FVec Ideal ⟨2, ![n, 1]⟩ .f32 := shapeCast ⟨2, ![n, 1]⟩ v15 h2
  have cst_4 : Ideal .f32 := Scalar.ofBits .f32 0x00000000#32
  have v17 : FVec Ideal ⟨2, ![n, 1]⟩ .f32 := broadcast ⟨2, ![n, 1]⟩ cst_4
  have v18 : IVec ⟨2, ![n, 1]⟩ 1 := cmpf .oeq v3 v17
  have cst_5 : Ideal .f32 := Scalar.ofBits .f32 0x7F800000#32
  have v19 : FVec Ideal ⟨2, ![n, 1]⟩ .f32 := broadcast ⟨2, ![n, 1]⟩ cst_5
  have v20 : IVec ⟨2, ![n, 1]⟩ 1 := cmpf .oeq v3 v19
  have v21 : IVec ⟨2, ![n, 1]⟩ 1 := ori v18 v20
  have cst_6 : Ideal .f32 := Scalar.ofBits .f32 0x3F800000#32
  have v22 : FVec Ideal ⟨2, ![n, 1]⟩ .f32 := broadcast ⟨2, ![n, 1]⟩ cst_6
  have v23 : FVec Ideal ⟨2, ![n, 1]⟩ .f32 := select v21 v22 v16
  v23

theorem rowScale_apply (n : ℕ) (h1 : (⟨2, ![n, 2048]⟩ : Shape).Reduces [1] ⟨1, ![n]⟩) (h2 : (⟨1, ![n]⟩ : Shape).ShapeCasts ⟨2, ![n, 1]⟩)
    (h3 : (⟨2, ![n, 256]⟩ : Shape).Iotas .tc 32 [1]) (h4 : (⟨2, ![n, 1]⟩ : Shape).Broadcasts ⟨2, ![n, 256]⟩)
    (h5 : (⟨2, ![n, 256]⟩ : Shape).Reduces [1] ⟨1, ![n]⟩) (v0 : FVec Ideal ⟨2, ![n, 2048]⟩ .f32) (r : Fin n) (q : Fin 1) :
    rowScale n h1 h2 h3 h4 h5 v0 (ix2 r q) = scale (maxAbs fun k => v0 (ix2 r k)) := by
  have hc : ∀ u : Fin 1, (Shape.reshapeEquiv h2) (ix2 r u) 0 = r := fun u =>
    ValueIdx.shapeCast_a_a1_apply (α := Fin n) (fun i : (⟨1, ![n]⟩ : Shape).Idx => (i 0 : Fin n)) h2 r u
  have hc' : ∀ f : (⟨2, ![n, 1]⟩ : Shape).Idx, (f 0).val = r.val → (Shape.reshapeEquiv h2) f 0 = r := fun f hf => by
    have e : f = ix2 r (f 1) := by
      funext a; match a with | ⟨0, _⟩ => exact Fin.ext hf | ⟨1, _⟩ => rfl
    rw [e]; exact hc _
  unfold scale
  pointwise [Cert.ReferenceIdeal.Gen.rowScale]
  simp only [hc]
  have hor : ∀ b c : Bool, IntOp.ori (BitVec.ofBool b) (BitVec.ofBool c) = 1 ↔ b = true ∨ c = true := by decide
  refine if_congr ((hor _ _).trans ?_) rfl (Finset.fold_congr fun x _ => ?_)
  · rw [decide_eq_true_iff, decide_eq_true_iff, ofBits_inf]
    exact Iff.rfl
  rw [hc' _ ?_]
  · rfl
  · show (if h : n = 1 then _ else _ : Fin n).val = r.val
    by_cases hn : n = 1
    · have := r.isLt
      refine (congrArg Fin.val (dif_pos hn)).trans ?_
      show 0 = r.val
      omega
    · exact (congrArg Fin.val (dif_neg hn)).trans rfl

/-- The quantiser's codes over `n` rows, as its body states them, from the scales. -/
def rowCode (n : ℕ) (h : (⟨2, ![n, 1]⟩ : Shape).Broadcasts ⟨2, ![n, 2048]⟩) (v0 : FVec Ideal ⟨2, ![n, 2048]⟩ .f32)
    (s : FVec Ideal ⟨2, ![n, 1]⟩ .f32) : FVec Ideal ⟨2, ![n, 2048]⟩ .fp8e4m3 :=
  have cst_6 : Ideal .f32 := Scalar.ofBits .f32 0x3F800000#32
  have v21 : FVec Ideal ⟨2, ![n, 1]⟩ .f32 := broadcast ⟨2, ![n, 1]⟩ cst_6
  have v22 : FVec Ideal ⟨2, ![n, 1]⟩ .f32 := divf v21 s
  have v23 : FVec Ideal ⟨2, ![n, 2048]⟩ .f32 := broadcastTo ⟨2, ![n, 2048]⟩ v22 h
  have v24 : FVec Ideal ⟨2, ![n, 2048]⟩ .f32 := mulf v0 v23
  have cst_7 : Ideal .f32 := Scalar.ofBits .f32 0xC3E00000#32
  have cst_8 : Ideal .f32 := Scalar.ofBits .f32 0x43E00000#32
  have v25 : FVec Ideal ⟨2, ![n, 2048]⟩ .f32 := broadcast ⟨2, ![n, 2048]⟩ cst_7
  have v26 : FVec Ideal ⟨2, ![n, 2048]⟩ .f32 := maximumf v25 v24
  have v27 : FVec Ideal ⟨2, ![n, 2048]⟩ .f32 := broadcast ⟨2, ![n, 2048]⟩ cst_8
  have v28 : FVec Ideal ⟨2, ![n, 2048]⟩ .f32 := minimumf v27 v26
  have v29 : FVec Ideal ⟨2, ![n, 2048]⟩ .fp8e4m3 := truncf .fp8e4m3 v28 bitsLt_fp8e4m3_f32
  v29

/-- A column laid along its rows reads the column's entry. -/
theorem column_apply {α : Type} (n b : ℕ) (h : (⟨2, ![n, 1]⟩ : Shape).Broadcasts ⟨2, ![n, b]⟩) (v : (⟨2, ![n, 1]⟩ : Shape).Idx → α)
    (r : Fin n) (q : Fin b) : broadcastTo ⟨2, ![n, b]⟩ v h (ix2 r q) = v (ix2 r 0) := by
  refine congrArg v (funext fun a => ?_)
  match a with
  | ⟨0, _⟩ =>
    apply Fin.ext
    by_cases hn : n = 1
    · have := r.isLt
      refine (congrArg Fin.val (dif_pos hn)).trans ?_
      show 0 = r.val
      omega
    · exact (congrArg Fin.val (dif_neg hn)).trans rfl
  | ⟨1, _⟩ => exact Subsingleton.elim (α := Fin 1) _ _

theorem rowCode_apply (n : ℕ) (h : (⟨2, ![n, 1]⟩ : Shape).Broadcasts ⟨2, ![n, 2048]⟩) (v0 : FVec Ideal ⟨2, ![n, 2048]⟩ .f32)
    (s : FVec Ideal ⟨2, ![n, 1]⟩ .f32) (r : Fin n) (q : Fin 2048) :
    rowCode n h v0 s (ix2 r q) = clip (Ideal.div 1 (s (ix2 r 0))) (v0 (ix2 r q)) := by
  have e : rowCode n h v0 s (ix2 r q) = clip (broadcastTo ⟨2, ![n, 2048]⟩ (fun i => Ideal.div (Ideal.ofBits .f32 0x3F800000#32) (s i)) h
      (ix2 r q)) (v0 (ix2 r q)) := rfl
  rw [e, column_apply, Ideal.ofBits_one_f32]

/-- The scale of a row. -/
theorem pay1_apply (v : Vec Ideal S4096x2048 .f32) (r : Fin 4096) (q : Fin 1) :
    k0_pay1 v (ix2 r q) = scale (maxAbs (row v r)) :=
  rowScale_apply 4096 reduces_S4096x2048_S4096 shapeCasts_S4096_S4096x1 iota_S4096x256_d1_w32 broadcasts_S4096x1_S4096x256
    reduces_S4096x256_S4096 v r q

/-- The codes of a row. -/
theorem pay2_apply (v : Vec Ideal S4096x2048 .f32) (r : Fin 4096) (q : Fin 2048) : k0_pay2 v (ix2 r q) = code (row v r) q := by
  refine (rowCode_apply 4096 broadcasts_S4096x1_S4096x2048 v (k0_pay1 v) r q).trans ?_
  rw [pay1_apply]
  rfl

/-- The quantised weights over `n` rows, as the quantiser's body states them, from codes and scales. -/
def rowWeight (n : ℕ) (h : (⟨2, ![n, 1]⟩ : Shape).Broadcasts ⟨2, ![n, 2048]⟩) (v29 : FVec Ideal ⟨2, ![n, 2048]⟩ .fp8e4m3)
    (s : FVec Ideal ⟨2, ![n, 1]⟩ .f32) : FVec Ideal ⟨2, ![n, 2048]⟩ .bf16 :=
  have v32 : FVec Ideal ⟨2, ![n, 2048]⟩ .bf16 := extf .bf16 v29 bitsLt_fp8e4m3_bf16
  have v33 : FVec Ideal ⟨2, ![n, 1]⟩ .bf16 := truncf .bf16 s bitsLt_bf16_f32
  have v34 : FVec Ideal ⟨2, ![n, 2048]⟩ .bf16 := broadcastTo ⟨2, ![n, 2048]⟩ v33 h
  have v35 : FVec Ideal ⟨2, ![n, 2048]⟩ .bf16 := mulf v32 v34
  v35

theorem rowWeight_apply (n : ℕ) (h : (⟨2, ![n, 1]⟩ : Shape).Broadcasts ⟨2, ![n, 2048]⟩) (v29 : FVec Ideal ⟨2, ![n, 2048]⟩ .fp8e4m3)
    (s : FVec Ideal ⟨2, ![n, 1]⟩ .f32) (r : Fin n) (q : Fin 2048) :
    rowWeight n h v29 s (ix2 r q) = (v29 (ix2 r q) : EReal) * s (ix2 r 0) := by
  have e : rowWeight n h v29 s (ix2 r q) = (v29 (ix2 r q) : EReal) * broadcastTo (α := EReal) ⟨2, ![n, 2048]⟩ s h (ix2 r q) := rfl
  rw [e, column_apply]

/-- The quantised weights of a row. -/
theorem pay3_apply (v : Vec Ideal S4096x2048 .f32) (r : Fin 4096) (q : Fin 2048) : k0_pay3 v (ix2 r q) = weight (row v r) q := by
  refine (rowWeight_apply 4096 broadcasts_S4096x1_S4096x2048 (k0_pay2 v) (k0_pay1 v) r q).trans ?_
  rw [pay1_apply, pay2_apply]
  rfl

end Cert.ReferenceIdeal.Gen

end
-- ==== Proof.RefDots.lean ====
/-
  Hand-written, untrusted. THE REFERENCE'S THREE PRODUCTS, one element at a time at the extended reals: each a sum over the contracted axes.
-/
module

public import proofs.«01_k».proof.Proof.Spec
public import proofs.«01_k».proof.Proof.Gen.ReferenceIdeal
public import Idealize.ShloMosaic.Lib.ValueIdx
public import Idealize.ShloMosaic.Lib.TwoAxisContraction
public import Idealize.ShloMosaic.PureOps.Ideal.Laws

@[expose] public section

set_option maxRecDepth 16384

noncomputable section

namespace Cert.ReferenceIdeal.Gen

open Idealize.ShloMosaic Cert.Proof.Scale

/-- `bsd,od->bso` at an element. -/
theorem dotY_apply (x : FVec Ideal S3x4096x2048 .bf16) (w : FVec Ideal S4096x2048 .bf16) (b : Fin 3) (s : Fin 4096) (o : Fin 4096) :
    Host.dotGeneral dot_S3x4096x2048_S4096x2048_S3x4096x4096_2_1_01_0_n_n none x w (ix3 b s o)
      = (∑ k : Fin 2048, x (ix3 b s k) * w (ix2 o k) : EReal) := by
  simp only [Host.dotGeneral]
  rw [Ideal.dotGeneral_apply]
  rw [← Equiv.sum_comp (ValueIdx.contrEquiv1 dot_S3x4096x2048_S4096x2048_S3x4096x4096_2_1_01_0_n_n 2048 rfl rfl).symm]
  refine Finset.sum_congr rfl fun k _ => ?_
  have hk := ValueIdx.contrEquiv1_symm_val dot_S3x4096x2048_S4096x2048_S3x4096x4096_2_1_01_0_n_n 2048 rfl rfl k
  congr 1
  · congr 1; funext a; apply Fin.ext
    match a with
    | ⟨0, _⟩ => rfl
    | ⟨1, _⟩ => rfl
    | ⟨2, _⟩ => exact hk
  · congr 1; funext a; apply Fin.ext
    match a with
    | ⟨0, _⟩ => rfl
    | ⟨1, _⟩ => exact hk

/-- `bso,od->bsd` at an element. -/
theorem dotDx_apply (g : FVec Ideal S3x4096x4096 .bf16) (w : FVec Ideal S4096x2048 .bf16) (b : Fin 3) (s : Fin 4096) (d : Fin 2048) :
    Host.dotGeneral dot_S3x4096x4096_S4096x2048_S3x4096x2048_2_0_01_1_n_n none g w (ix3 b s d)
      = (∑ k : Fin 4096, g (ix3 b s k) * w (ix2 k d) : EReal) := by
  simp only [Host.dotGeneral]
  rw [Ideal.dotGeneral_apply]
  rw [← Equiv.sum_comp (ValueIdx.contrEquiv1 dot_S3x4096x4096_S4096x2048_S3x4096x2048_2_0_01_1_n_n 4096 rfl rfl).symm]
  refine Finset.sum_congr rfl fun k _ => ?_
  have hk := ValueIdx.contrEquiv1_symm_val dot_S3x4096x4096_S4096x2048_S3x4096x2048_2_0_01_1_n_n 4096 rfl rfl k
  congr 1
  · congr 1; funext a; apply Fin.ext
    match a with
    | ⟨0, _⟩ => rfl
    | ⟨1, _⟩ => rfl
    | ⟨2, _⟩ => exact hk
  · congr 1; funext a; apply Fin.ext
    match a with
    | ⟨0, _⟩ => exact hk
    | ⟨1, _⟩ => rfl

/-- `bso,bsd->od` at an element. -/
theorem dotDw_apply (g : FVec Ideal S3x4096x4096 .bf16) (x : FVec Ideal S3x4096x2048 .bf16) (o : Fin 4096) (d : Fin 2048) :
    Host.dotGeneral dot_S3x4096x4096_S3x4096x2048_S4096x2048_01_01_2_2_n_n none g x (ix2 o d)
      = (∑ b : Fin 3, ∑ s : Fin 4096, g (ix3 b s o) * x (ix3 b s d) : EReal) := by
  simp only [Host.dotGeneral]
  rw [Ideal.dotGeneral_apply, ValueIdx.sum_contr2 dot_S3x4096x4096_S3x4096x2048_S4096x2048_01_01_2_2_n_n 3 4096 rfl rfl rfl]
  refine Finset.sum_congr rfl fun b _ => Finset.sum_congr rfl fun s _ => ?_
  have h0 := ValueIdx.contrEquiv2_symm_val0 dot_S3x4096x4096_S3x4096x2048_S4096x2048_01_01_2_2_n_n 3 4096 rfl rfl rfl (b, s)
  have h1 := ValueIdx.contrEquiv2_symm_val1 dot_S3x4096x4096_S3x4096x2048_S4096x2048_01_01_2_2_n_n 3 4096 rfl rfl rfl (b, s)
  congr 1
  · congr 1; funext a; apply Fin.ext
    match a with
    | ⟨0, _⟩ => exact h0
    | ⟨1, _⟩ => exact h1
    | ⟨2, _⟩ => rfl
  · congr 1; funext a; apply Fin.ext
    match a with
    | ⟨0, _⟩ => exact h0
    | ⟨1, _⟩ => exact h1
    | ⟨2, _⟩ => rfl

end Cert.ReferenceIdeal.Gen

end
-- ==== Proof.RefRun.lean ====
/-
  Hand-written, untrusted. THE REFERENCE'S RUN: every execution ends, nothing faulting, the five results at their specifications and the
  arguments unchanged.
-/
module

public import proofs.«01_k».proof.Proof.RefPayload
public import proofs.«01_k».proof.Proof.RefDots
public import proofs.«01_k».proof.Proof.Reshapes
public import proofs.«01_k».proof.Proof.Gen.ReferenceIdeal.Frame

@[expose] public section

set_option maxRecDepth 16384

noncomputable section

namespace Cert.ReferenceIdeal.Gen

open Idealize.ShloMosaic Idealize.ShloMosaic.TcCoe Cert.Proof.Scale
open Idealize.SL Idealize.SL.Sem

variable (m : (ℓ : Loc nD τ sig) → Buf (Elt Ideal) ℓ) (ρ : Dev nD → PrngReg)

theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)

/-- The weights as launched. -/
abbrev argW (c : Dev nD) : Ws := (m ((c : Thread nD τ).loc main_arg1) : Vec Ideal S4096x2048 .f32)
abbrev argX (c : Dev nD) : Xs := (m ((c : Thread nD τ).loc main_arg0) : Vec Ideal S3x4096x2048 .bf16)
abbrev argG (c : Dev nD) : Gs := (m ((c : Thread nD τ).loc main_arg2) : Vec Ideal S3x4096x4096 .bf16)

/-- The one input block is the weights. -/
theorem block_row (c : Dev nD) (t : Fin cfg0.N) (r : Fin 4096) : row (iblk m c 0 t) r = wrow (argW m c) r := by
  funext k
  unfold row wrow
  blk_simp [iblk]
  congr 1
  blk_ext [idx0_0]

/-- The codes' array. -/
theorem final_codes (c : Dev nD) : (dats m 0 c).arrAt 1 cfg0.N = resCodes (argW m c) := by
  refine (dats m 0 c).arrAt_eq_of_covers 1 _ (by decide +kernel) fun t hf y => ?_
  blk_simp
  rw [after0_1]; frame_out
  obtain ⟨r, q, rfl⟩ := ix2_eta (a := 4096) (b := 2048) y
  have e : (win0_1.blk t).view.emb (ix2 r q) 0 = (r : Fin 4096) := by
    apply Fin.ext; blk_simp [idx0_1]
  have e' : (win0_1.blk t).view.emb (ix2 r q) 1 = (q : Fin 2048) := by
    apply Fin.ext; blk_simp [idx0_1]
  unfold resCodes
  rw [pay2_apply, block_row, e, e']

/-- The scales' column. -/
theorem final_scales (c : Dev nD) : (dats m 0 c).arrAt 2 cfg0.N = fun i => scale (maxAbs (wrow (argW m c) (i 0))) := by
  refine (dats m 0 c).arrAt_eq_of_covers 2 _ (by decide +kernel) fun t hf y => ?_
  blk_simp
  rw [after0_2]; frame_out
  obtain ⟨r, q, rfl⟩ := ix2_eta (a := 4096) (b := 1) y
  have e : (win0_2.blk t).view.emb (ix2 r q) 0 = (r : Fin 4096) := by
    apply Fin.ext; blk_simp [idx0_2]
  rw [pay1_apply, block_row, e]

/-- The quantised weights' array. -/
theorem final_weights (c : Dev nD) : (dats m 0 c).arrAt 3 cfg0.N = fun i => weight (wrow (argW m c) (i 0)) (i 1) := by
  refine (dats m 0 c).arrAt_eq_of_covers 3 _ (by decide +kernel) fun t hf y => ?_
  blk_simp
  rw [after0_3]; frame_out
  obtain ⟨r, q, rfl⟩ := ix2_eta (a := 4096) (b := 2048) y
  have e : (win0_3.blk t).view.emb (ix2 r q) 0 = (r : Fin 4096) := by
    apply Fin.ext; blk_simp [idx0_3]
  have e' : (win0_3.blk t).view.emb (ix2 r q) 1 = (q : Fin 2048) := by
    apply Fin.ext; blk_simp [idx0_3]
  rw [pay3_apply, block_row, e, e']

/-! ## The host operations after the quantiser -/

/-- The contents the host operations start from. -/
abbrev mid (c : Dev nD) : Valuation τ sig (Elt Ideal) :=
  Pipeline.withArrays spec0 c (V0 m c) fun w => (dats m 0 c).arrAt w cfg0.N

theorem mid_arg0 (c : Dev nD) : mid m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem mid_arg2 (c : Dev nD) : mid m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem mid_scales (c : Dev nD) : mid m c (Proc.devRef .tc main_v0_1) = fun i => scale (maxAbs (wrow (argW m c) (i 0))) :=
  (Pipeline.withArrays_arr spec0 launch0.win.arr_inj c (V0 m c) (fun w => (dats m 0 c).arrAt w cfg0.N) 2).trans (final_scales m c)
theorem mid_weights (c : Dev nD) : mid m c (Proc.devRef .tc main_v0_2) = fun i => weight (wrow (argW m c) (i 0)) (i 1) :=
  (Pipeline.withArrays_arr spec0 launch0.win.arr_inj c (V0 m c) (fun w => (dats m 0 c).arrAt w cfg0.N) 3).trans (final_weights m c)

theorem tail_y (U : Valuation τ sig (Elt Ideal)) : StableHlo.after hostOps1 U (Proc.devRef .tc main_v2)
    = truncf (F := Ideal) .bf16 (Host.dotGeneral (F := Ideal) (φ₁ := .bf16) (φ₂ := .bf16) dot_S3x4096x2048_S4096x2048_S3x4096x4096_2_1_01_0_n_n none
        (U (Proc.devRef .tc main_arg0)) (U (Proc.devRef .tc main_v0_2))) bitsLt_bf16_f32 := by
  after_results
theorem tail_dx (U : Valuation τ sig (Elt Ideal)) : StableHlo.after hostOps1 U (Proc.devRef .tc main_v4)
    = truncf (F := Ideal) .bf16 (Host.dotGeneral (F := Ideal) (φ₁ := .bf16) (φ₂ := .bf16) dot_S3x4096x4096_S4096x2048_S3x4096x2048_2_0_01_1_n_n none
        (U (Proc.devRef .tc main_arg2)) (U (Proc.devRef .tc main_v0_2))) bitsLt_bf16_f32 := by
  after_results
theorem tail_dw (U : Valuation τ sig (Elt Ideal)) : StableHlo.after hostOps1 U (Proc.devRef .tc main_v5)
    = Host.dotGeneral (F := Ideal) (φ₁ := .bf16) (φ₂ := .bf16) dot_S3x4096x4096_S3x4096x2048_S4096x2048_01_01_2_2_n_n none
        (U (Proc.devRef .tc main_arg2)) (U (Proc.devRef .tc main_arg0)) := by
  after_results
theorem tail_scales (U : Valuation τ sig (Elt Ideal)) : StableHlo.after hostOps1 U (Proc.devRef .tc main_v6)
    = shapeCast S4096 (U (Proc.devRef .tc main_v0_1)) shapeCasts_S4096x1_S4096 := by
  after_results
  rfl

theorem end_y (c : Dev nD) : StableHlo.after hostOps1 (mid m c) (Proc.devRef .tc main_v2) = resY (argX m c) (argW m c) := by
  rw [tail_y, mid_arg0, mid_weights]
  funext i
  obtain ⟨b, s, o, rfl⟩ := ix3_eta (a := 3) (b := 4096) (c := 4096) i
  exact dotY_apply _ _ b s o
theorem end_dx (c : Dev nD) : StableHlo.after hostOps1 (mid m c) (Proc.devRef .tc main_v4) = resDx (argG m c) (argW m c) := by
  rw [tail_dx, mid_arg2, mid_weights]
  funext i
  obtain ⟨b, s, d, rfl⟩ := ix3_eta (a := 3) (b := 4096) (c := 2048) i
  exact dotDx_apply _ _ b s d
theorem end_dw (c : Dev nD) : StableHlo.after hostOps1 (mid m c) (Proc.devRef .tc main_v5) = resDw (argG m c) (argX m c) := by
  rw [tail_dw, mid_arg2, mid_arg0]
  funext i
  obtain ⟨o, d, rfl⟩ := ix2_eta (a := 4096) (b := 2048) i
  exact dotDw_apply _ _ o d
theorem end_scales (c : Dev nD) : StableHlo.after hostOps1 (mid m c) (Proc.devRef .tc main_v6) = resScales (argW m c) := by
  rw [tail_scales, mid_scales]
  funext i
  obtain ⟨r, rfl⟩ := ix1_eta (a := 4096) i
  exact uncolumn_apply 4096 _ _ r

/-- The reference's run: the five results at their specifications. -/
theorem run_results : θ_run defs (onTc (τ := τ) (main (F := Ideal))) ⟨m, fun _ => 0, ρ⟩ (fun r => ∀ c : Dev nD,
      r.2.mem ((c.tc : Thread nD τ).loc main_v2) = resY (argX m c) (argW m c)
      ∧ r.2.mem ((c.tc : Thread nD τ).loc main_v4) = resDx (argG m c) (argW m c)
      ∧ r.2.mem ((c.tc : Thread nD τ).loc main_v5) = resDw (argG m c) (argX m c)
      ∧ r.2.mem ((c.tc : Thread nD τ).loc main_v0_0) = resCodes (argW m c)
      ∧ r.2.mem ((c.tc : Thread nD τ).loc main_v6) = resScales (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (end_y m c),
     ((h c).2 main_v4 (Pipeline.mem_restRefs_of main_v4 (by decide) (by decide))).trans (end_dx m c),
     ((h c).2 main_v5 (Pipeline.mem_restRefs_of main_v5 (by decide) (by decide))).trans (end_dw m c),
     ((h c).1 1).trans (final_codes m c),
     ((h c).2 main_v6 (Pipeline.mem_restRefs_of main_v6 (by decide) (by decide))).trans (end_scales m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m (dats m) c)⟩) (run_main m ρ)

end Cert.ReferenceIdeal.Gen

end
-- ==== Proof.PreRows.lean ====
/-
  Hand-written, untrusted. WHAT THE PRECONDITION SAYS: every row of the weights has a largest magnitude that is zero, or infinite, or
  between 2^-126 and 2^126 once scaled.
-/
module

public import proofs.«01_k».proof.Proof.Spec
public import proofs.«01_k».proof.Proof.Gen.Pre_normal_rows
public import Idealize.ShloMosaic.Lib.KernelVsHost
public import Idealize.ShloMosaic.Lib.ReduceAll
public import Idealize.ShloMosaic.Lib.Pointwise

@[expose] public section

set_option maxRecDepth 16384

noncomputable section

namespace Cert.Pre_normal_rows.Gen

open Idealize.ShloMosaic Cert.Proof.Scale

/-- A row's largest magnitude by the host's reduction, over `n` rows. -/
theorem hostMax_apply (n : ℕ) (h1 : (⟨2, ![n, 2048]⟩ : Shape).ReducesTo [1] ⟨1, ![n]⟩) (h1' : (⟨2, ![n, 2048]⟩ : Shape).Reduces [1] ⟨1, ![n]⟩)
    (hu : 0 < S_.numel) (v : FVec Ideal ⟨2, ![n, 2048]⟩ .f32) (r : Fin n) :
    Host.reduce (FloatOps.maximumf (F := Ideal) (φ := .f32)) (Host.absf v) (constant S_ .f32 0xFF800000#32) h1 hu (ix1 r)
      = maxAbs fun k => v (ix2 r k) := by
  rw [hostReduce_maximumf_eq_multiReduction (Host.absf v) 0xFF800000#32 h1 hu h1' (.inl rfl) rfl]
  pointwise
  rfl

/-- The precondition's words, read at a row. -/
theorem normal_of_words (a : EReal)
    (h : IntOp.ori (IntOp.ori (Ideal.cmp .oeq a (Ideal.ofBits .f32 0x00000000#32)) (Ideal.cmp .oeq a (Ideal.ofBits .f32 0x7F800000#32)))
      (IntOp.andi (Ideal.cmp .oge (a * recip448) (Ideal.ofBits .f32 0x00800000#32))
        (Ideal.cmp .olt (a * recip448) (Ideal.ofBits .f32 0x7E800000#32))) = 1#1) : Normal a := by
  have words : ∀ z p q r : Bool, IntOp.ori (IntOp.ori (BitVec.ofBool z) (BitVec.ofBool p)) (IntOp.andi (BitVec.ofBool q) (BitVec.ofBool r)) = 1#1 →
      (z = true ∨ p = true) ∨ (q = true ∧ r = true) := by decide
  rcases words _ _ _ _ h with (h0 | h0) | ⟨h1, h2⟩
  · refine .inl (.inl ?_)
    rw [← Ideal.ofBits_zero_f32]
    exact of_decide_eq_true h0
  · refine .inl (.inr ?_)
    rw [← ofBits_inf]
    exact of_decide_eq_true h0
  · exact .inr ⟨of_decide_eq_true h1, of_decide_eq_true h2⟩

/-- The precondition over `n` rows, as its function states it. -/
def rowsOk (n : ℕ) (h1 : (⟨2, ![n, 2048]⟩ : Shape).ReducesTo [1] ⟨1, ![n]⟩) (hu : 0 < S_.numel)
    (hb : S_.BroadcastsInDim ⟨1, ![n]⟩ (![] : Fin 0 → Fin 1)) (h2 : (⟨1, ![n]⟩ : Shape).ReducesTo [0] S_)
    (main_arg1 : FVec Ideal ⟨2, ![n, 2048]⟩ .f32) : IVec S_ 1 :=
  let main_v0 : FVec Ideal ⟨2, ![n, 2048]⟩ .f32 := Host.absf main_arg1
  let main_cst : FVec Ideal S_ .f32 := constant S_ .f32 0xFF800000#32
  let main_v1 : FVec Ideal ⟨1, ![n]⟩ .f32 := (fun x v => Host.reduce FloatOps.maximumf x v h1 hu) main_v0 main_cst
  let main_cst_0 : FVec Ideal S_ .f32 := constant S_ .f32 0x3B124925#32
  let main_v2 : FVec Ideal ⟨1, ![n]⟩ .f32 := broadcastInDim ⟨1, ![n]⟩ ![] hb main_cst_0
  let main_v3 : FVec Ideal ⟨1, ![n]⟩ .f32 := mulf main_v1 main_v2
  let main_cst_1 : FVec Ideal S_ .f32 := constant S_ .f32 0x00000000#32
  let main_v4 : FVec Ideal ⟨1, ![n]⟩ .f32 := broadcastInDim ⟨1, ![n]⟩ ![] hb main_cst_1
  let main_v5 : IVec ⟨1, ![n]⟩ 1 := cmpf .oeq main_v1 main_v4
  let main_cst_2 : FVec Ideal S_ .f32 := constant S_ .f32 0x7F800000#32
  let main_v6 : FVec Ideal ⟨1, ![n]⟩ .f32 := broadcastInDim ⟨1, ![n]⟩ ![] hb main_cst_2
  let main_v7 : IVec ⟨1, ![n]⟩ 1 := cmpf .oeq main_v1 main_v6
  let main_v8 : IVec ⟨1, ![n]⟩ 1 := ori main_v5 main_v7
  let main_cst_3 : FVec Ideal S_ .f32 := constant S_ .f32 0x00800000#32
  let main_v9 : FVec Ideal ⟨1, ![n]⟩ .f32 := broadcastInDim ⟨1, ![n]⟩ ![] hb main_cst_3
  let main_v10 : IVec ⟨1, ![n]⟩ 1 := cmpf .oge main_v3 main_v9
  let main_cst_4 : FVec Ideal S_ .f32 := constant S_ .f32 0x7E800000#32
  let main_v11 : FVec Ideal ⟨1, ![n]⟩ .f32 := broadcastInDim ⟨1, ![n]⟩ ![] hb main_cst_4
  let main_v12 : IVec ⟨1, ![n]⟩ 1 := cmpf .olt main_v3 main_v11
  let main_v13 : IVec ⟨1, ![n]⟩ 1 := andi main_v10 main_v12
  let main_v14 : IVec ⟨1, ![n]⟩ 1 := ori main_v8 main_v13
  let main_c : IVec S_ 1 := constantI S_ 1 1#1
  let main_v15 : IVec S_ 1 := (fun x v => Host.reduce IntOp.andi x v h2 hu) main_v14 main_c
  main_v15

theorem rowsOk_normal (n : ℕ) (h1 : (⟨2, ![n, 2048]⟩ : Shape).ReducesTo [1] ⟨1, ![n]⟩) (hu : 0 < S_.numel)
    (hb : S_.BroadcastsInDim ⟨1, ![n]⟩ (![] : Fin 0 → Fin 1)) (h2 : (⟨1, ![n]⟩ : Shape).ReducesTo [0] S_)
    (h1' : (⟨2, ![n, 2048]⟩ : Shape).Reduces [1] ⟨1, ![n]⟩) (W : FVec Ideal ⟨2, ![n, 2048]⟩ .f32)
    (h : rowsOk n h1 hu hb h2 W = fun _ => 1#1) (r : Fin n) : Normal (maxAbs fun k => W (ix2 r k)) := by
  haveI : Subsingleton S_.Idx := ⟨fun a b => funext fun k => k.elim0⟩
  have hr := Host.reduce_andi_all _ _ h2 hu (fun a => a.elim0) (congrFun h _) (ix1 r)
  rw [← hostMax_apply n h1 h1' hu W r]
  exact normal_of_words _ hr

theorem reduces_rows : S4096x2048.Reduces [1] S4096 := by decide

/-- Under the precondition every row of the weights is normal. -/
theorem rows_normal (x : FVec Ideal S3x4096x2048 .bf16) (W : FVec Ideal S4096x2048 .f32) (g : FVec Ideal S3x4096x4096 .bf16)
    (h : Cert.Pre_normal_rows.fn (F := Ideal) x W g = fun _ => 1#1) (r : Fin 4096) : Normal (maxAbs (wrow W r)) :=
  rowsOk_normal 4096 reducesTo_S4096x2048_S4096_d1 h_S_ bcast_S_S4096 reducesTo_S4096_S_d0 reduces_rows W h r

end Cert.Pre_normal_rows.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_rows
public import proofs.«01_k».proof.Proof.KernelValue
public import proofs.«01_k».proof.Proof.RefRun
public import proofs.«01_k».proof.Proof.PreRows
public import Idealize.ShloMosaic.Adequacy
public import Idealize.ShloMosaic.Init

@[expose] public section

noncomputable section

namespace Cert.Proof

open Idealize.ShloMosaic Idealize.SL.Sem Cert.Kernel

theorem kernel_quiescent : Cert.quiescent_Kernel (hKernel := Cert.Kernel.Gen.facts) :=
  fun m g _ => Cert.Kernel.Gen.frame m g

theorem kernelIdeal_quiescent : Cert.quiescent_KernelIdeal (hKernelIdeal := Cert.KernelIdeal.Gen.facts) :=
  fun m g _ => Cert.KernelIdeal.Gen.frame m g

theorem kernelIdeal_quiescent_pre : Cert.quiescent_KernelIdeal_pre_normal_rows (hKernelIdeal := Cert.KernelIdeal.Gen.facts)
    (hPre_normal_rows := Cert.Pre_normal_rows.Gen.facts) :=
  fun m g _ => Cert.KernelIdeal.Gen.frame m g

theorem referenceIdeal_quiescent : Cert.quiescent_ReferenceIdeal (hReferenceIdeal := Cert.ReferenceIdeal.Gen.facts) :=
  fun m g _ => Cert.ReferenceIdeal.Gen.frame m g

theorem referenceIdeal_quiescent_pre : Cert.quiescent_ReferenceIdeal_pre_normal_rows
    (hReferenceIdeal := Cert.ReferenceIdeal.Gen.facts) (hPre_normal_rows := Cert.Pre_normal_rows.Gen.facts) :=
  fun m g _ => Cert.ReferenceIdeal.Gen.frame m g

/-- Both programs end with the five results the specification states at the kernel's arguments. -/
theorem kernelIdeal_algebraic : Cert.algebraic_KernelIdeal_ReferenceIdeal_pre_normal_rows
    (hKernelIdeal := Cert.KernelIdeal.Gen.facts) (hReferenceIdeal := Cert.ReferenceIdeal.Gen.facts)
    (hPre_normal_rows := Cert.Pre_normal_rows.Gen.facts) := by
  intro m g m' g' hPre hArgs
  have hN : ∀ (c : Dev Cert.KernelIdeal.nD) (r : Fin 4096), Scale.Normal (Scale.maxAbs (Scale.wrow (Cert.KernelIdeal.Gen.argW m c) r)) :=
    fun c r => Cert.Pre_normal_rows.Gen.rows_normal _ _ _ (hPre c) r
  refine ⟨fun c => Scale.resY (Cert.KernelIdeal.Gen.argX m c) (Cert.KernelIdeal.Gen.argW m c),
    fun c => Scale.resDx (Cert.KernelIdeal.Gen.argG m c) (Cert.KernelIdeal.Gen.argW m c),
    fun c => Scale.resDw (Cert.KernelIdeal.Gen.argG m c) (Cert.KernelIdeal.Gen.argX m c),
    fun c => Scale.resCodes (Cert.KernelIdeal.Gen.argW m c), fun c => Scale.resScales (Cert.KernelIdeal.Gen.argW m c),
    Cert.KernelIdeal.Gen.run_spec m g hN, ?_⟩
  have hX : ∀ c : Dev Cert.KernelIdeal.nD, Cert.ReferenceIdeal.Gen.argX m' c = Cert.KernelIdeal.Gen.argX m c := fun c => (hArgs c).1
  have hW : ∀ c : Dev Cert.KernelIdeal.nD, Cert.ReferenceIdeal.Gen.argW m' c = Cert.KernelIdeal.Gen.argW m c := fun c => (hArgs c).2.1
  have hG : ∀ c : Dev Cert.KernelIdeal.nD, Cert.ReferenceIdeal.Gen.argG m' c = Cert.KernelIdeal.Gen.argG m c := fun c => (hArgs c).2.2
  refine (θ_run _ _ _).mono (fun r h c => ?_) (Cert.ReferenceIdeal.Gen.run_results m' g')
  have k := h c
  rw [hX c, hW c, hG c] at k
  exact k

theorem claim : Cert.Claim := ⟨Cert.Kernel.Gen.facts, Cert.KernelIdeal.Gen.facts, Cert.ReferenceIdeal.Gen.facts, Cert.Pre_normal_rows.Gen.facts,
  kernel_quiescent, kernelIdeal_quiescent, kernelIdeal_quiescent_pre, referenceIdeal_quiescent, referenceIdeal_quiescent_pre,
  trivial, kernelIdeal_algebraic⟩

end Cert.Proof

end
